-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S80x32x128 : Shape := ⟨3, ![80, 32, 128]⟩
abbrev S80x32 : Shape := ⟨2, ![80, 32]⟩
abbrev S400x256x128 : Shape := ⟨3, ![400, 256, 128]⟩
abbrev S400x256 : Shape := ⟨2, ![400, 256]⟩
abbrev S80x400x32 : Shape := ⟨3, ![80, 400, 32]⟩
abbrev S80x400 : Shape := ⟨2, ![80, 400]⟩
abbrev S_ : Shape := ⟨0, ![]⟩

class Facts : Prop where
  bcast_S_S80x400x32 : S_.BroadcastsInDim S80x400x32 (![] : Fin 0 → Fin S80x400x32.rank)

variable [Facts]

def fn {F : FTy → Type} [FloatOps F] (main_arg0 : FVec F S80x32x128 .fp8e4m3) (main_arg1 : FVec F S80x32 .f32) (main_arg2 : FVec F S400x256x128 .fp8e4m3) (main_arg3 : FVec F S400x256 .f32) (main_arg4 : IVec S80x400x32 32) (main_arg5 : FVec F S80x400 .bf16) : IVec S80x400x32 1 :=
  let main_c : IVec S_ 32 := constantI S_ 32 0#32
  let main_v0 : IVec S80x400x32 32 := broadcastInDim S80x400x32 ![] bcast_S_S80x400x32 main_c
  let main_v1 : IVec S80x400x32 1 := cmpi .sge main_arg4 main_v0
  let main_c_0 : IVec S_ 32 := constantI S_ 32 256#32
  let main_v2 : IVec S80x400x32 32 := broadcastInDim S80x400x32 ![] bcast_S_S80x400x32 main_c_0
  let main_v3 : IVec S80x400x32 1 := cmpi .slt main_arg4 main_v2
  let main_v4 : IVec S80x400x32 1 := andi main_v1 main_v3
  main_v4
-- ==== Kernel.lean ====
abbrev S80x32x128 : Shape := ⟨3, ![80, 32, 128]⟩
abbrev S80x32 : Shape := ⟨2, ![80, 32]⟩
abbrev S400x256x128 : Shape := ⟨3, ![400, 256, 128]⟩
abbrev S400x256 : Shape := ⟨2, ![400, 256]⟩
abbrev S80x400x32 : Shape := ⟨3, ![80, 400, 32]⟩
abbrev S80x400 : Shape := ⟨2, ![80, 400]⟩
abbrev S400x80x32 : Shape := ⟨3, ![400, 80, 32]⟩
abbrev S400x1x2560 : Shape := ⟨3, ![400, 1, 2560]⟩
abbrev S400x80 : Shape := ⟨2, ![400, 80]⟩
abbrev S400x2560 : Shape := ⟨2, ![400, 2560]⟩
abbrev S1x2560 : Shape := ⟨2, ![1, 2560]⟩
abbrev S2560x128 : Shape := ⟨2, ![2560, 128]⟩
abbrev S400x256x1 : Shape := ⟨3, ![400, 256, 1]⟩
abbrev S1x1x2560 : Shape := ⟨3, ![1, 1, 2560]⟩
abbrev S1x256x128 : Shape := ⟨3, ![1, 256, 128]⟩
abbrev S1x256x1 : Shape := ⟨3, ![1, 256, 1]⟩
abbrev S128x2560 : Shape := ⟨2, ![128, 2560]⟩
abbrev S256x2560 : Shape := ⟨2, ![256, 2560]⟩
abbrev S256x128 : Shape := ⟨2, ![256, 128]⟩
abbrev S256x1 : Shape := ⟨2, ![256, 1]⟩

abbrev nBuf : Space → Nat
  | .hbm => 17
  | .vmem => 15
  | .smem => 0
  | _ => 0

abbrev bufTy : (tb : Table) → Fin (tcTables nBuf tb) → BufTy
  | .hbm, ⟨0, _⟩ => ⟨S80x32x128, .fp8e4m3⟩
  | .hbm, ⟨1, _⟩ => ⟨S80x32, .f32⟩
  | .hbm, ⟨2, _⟩ => ⟨S400x256x128, .fp8e4m3⟩
  | .hbm, ⟨3, _⟩ => ⟨S400x256, .f32⟩
  | .hbm, ⟨4, _⟩ => ⟨S80x400x32, .i32⟩
  | .hbm, ⟨5, _⟩ => ⟨S80x400, .bf16⟩
  | .hbm, ⟨6, _⟩ => ⟨S400x80x32, .i32⟩
  | .hbm, ⟨7, _⟩ => ⟨S400x1x2560, .i32⟩
  | .hbm, ⟨8, _⟩ => ⟨S400x80, .bf16⟩
  | .hbm, ⟨9, _⟩ => ⟨S400x80x32, .bf16⟩
  | .hbm, ⟨10, _⟩ => ⟨S400x2560, .bf16⟩
  | .hbm, ⟨11, _⟩ => ⟨S400x1x2560, .bf16⟩
  | .hbm, ⟨12, _⟩ => ⟨S1x2560, .f32⟩
  | .hbm, ⟨13, _⟩ => ⟨S2560x128, .fp8e4m3⟩
  | .hbm, ⟨14, _⟩ => ⟨S400x256x1, .f32⟩
  | .hbm, ⟨15, _⟩ => ⟨S2560x128, .bf16⟩
  | .hbm, ⟨16, _⟩ => ⟨S400x256x128, .bf16⟩
  | .local _ .vmem, ⟨0, _⟩ => ⟨S1x1x2560, .i32⟩
  | .local _ .vmem, ⟨1, _⟩ => ⟨S1x1x2560, .i32⟩
  | .local _ .vmem, ⟨2, _⟩ => ⟨S1x1x2560, .bf16⟩
  | .local _ .vmem, ⟨3, _⟩ => ⟨S1x1x2560, .bf16⟩
  | .local _ .vmem, ⟨4, _⟩ => ⟨S1x2560, .f32⟩
  | .local _ .vmem, ⟨5, _⟩ => ⟨S2560x128, .fp8e4m3⟩
  | .local _ .vmem, ⟨6, _⟩ => ⟨S1x256x128, .fp8e4m3⟩
  | .local _ .vmem, ⟨7, _⟩ => ⟨S1x256x128, .fp8e4m3⟩
  | .local _ .vmem, ⟨8, _⟩ => ⟨S1x256x1, .f32⟩
  | .local _ .vmem, ⟨9, _⟩ => ⟨S1x256x1, .f32⟩
  | .local _ .vmem, ⟨10, _⟩ => ⟨S2560x128, .bf16⟩
  | .local _ .vmem, ⟨11, _⟩ => ⟨S1x256x128, .bf16⟩
  | .local _ .vmem, ⟨12, _⟩ => ⟨S1x256x128, .bf16⟩
  | .local _ .vmem, ⟨13, _⟩ => ⟨S2560x128, .bf16⟩
  | .local _ .vmem, ⟨14, _⟩ => ⟨S128x2560, .f32⟩
  | _, _ => ⟨S80x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![400], ![false]⟩

def k0_cond2 (i : grid0.Coords) : BitVec 1 :=
  let arg0 : BitVec 32 := BitVec.ofNat 32 (i 0).val
  let c399_i32 : BitVec 32 := 399#32
  let v44 : BitVec 1 := Scalar.cmpi .eq arg0 c399_i32
  let v45 : BitVec 32 := Scalar.extui v44
  let c0_i32_26 : BitVec 32 := 0#32
  let v46 : BitVec 1 := Scalar.cmpi .ne v45 c0_i32_26
  v46

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2560 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2560x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2560x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S80x32x128 : Shape := ⟨3, ![80, 32, 128]⟩
abbrev S80x32 : Shape := ⟨2, ![80, 32]⟩
abbrev S400x256x128 : Shape := ⟨3, ![400, 256, 128]⟩
abbrev S400x256 : Shape := ⟨2, ![400, 256]⟩
abbrev S80x400x32 : Shape := ⟨3, ![80, 400, 32]⟩
abbrev S80x400 : Shape := ⟨2, ![80, 400]⟩
abbrev S400 : Shape := ⟨1, ![400]⟩
abbrev S1x400x1 : Shape := ⟨3, ![1, 400, 1]⟩
abbrev S_ : Shape := ⟨0, ![]⟩
abbrev S80x400x32x1 : Shape := ⟨4, ![80, 400, 32, 1]⟩
abbrev S80x400x32x2 : Shape := ⟨4, ![80, 400, 32, 2]⟩
abbrev S80x400x32x128 : Shape := ⟨4, ![80, 400, 32, 128]⟩
abbrev S80x32x1 : Shape := ⟨3, ![80, 32, 1]⟩
abbrev S80x400x1x1 : Shape := ⟨4, ![80, 400, 1, 1]⟩
abbrev S80x1x32x128 : Shape := ⟨4, ![80, 1, 32, 128]⟩
abbrev S2560x128 : Shape := ⟨2, ![2560, 128]⟩

abbrev nBuf : Space → Nat
  | .hbm => 86
  | .vmem => 4
  | .smem => 0
  | _ => 0

abbrev bufTy : (tb : Table) → Fin (tcTables nBuf tb) → BufTy
  | .hbm, ⟨0, _⟩ => ⟨S80x32x128, .fp8e4m3⟩
  | .hbm, ⟨1, _⟩ => ⟨S80x32, .f32⟩
  | .hbm, ⟨2, _⟩ => ⟨S400x256x128, .fp8e4m3⟩
  | .hbm, ⟨3, _⟩ => ⟨S400x256, .f32⟩
  | .hbm, ⟨4, _⟩ => ⟨S80x400x32, .i32⟩
  | .hbm, ⟨5, _⟩ => ⟨S80x400, .bf16⟩
  | .hbm, ⟨6, _⟩ => ⟨S80x32x128, .f32⟩
  | .hbm, ⟨7, _⟩ => ⟨S400x256x128, .bf16⟩
  | .hbm, ⟨8, _⟩ => ⟨S400, .i32⟩
  | .hbm, ⟨9, _⟩ => ⟨S1x400x1, .i32⟩
  | .hbm, ⟨10, _⟩ => ⟨S_, .i32⟩
  | .hbm, ⟨11, _⟩ => ⟨S1x400x1, .i32⟩
  | .hbm, ⟨12, _⟩ => ⟨S1x400x1, .i1⟩
  | .hbm, ⟨13, _⟩ => ⟨S_, .i32⟩
  | .hbm, ⟨14, _⟩ => ⟨S1x400x1, .i32⟩
  | .hbm, ⟨15, _⟩ => ⟨S1x400x1, .i32⟩
  | .hbm, ⟨16, _⟩ => ⟨S1x400x1, .i32⟩
  | .hbm, ⟨17, _⟩ => ⟨S_, .i32⟩
  | .hbm, ⟨18, _⟩ => ⟨S80x400x32, .i32⟩
  | .hbm, ⟨19, _⟩ => ⟨S80x400x32, .i1⟩
  | .hbm, ⟨20, _⟩ => ⟨S_, .i32⟩
  | .hbm, ⟨21, _⟩ => ⟨S80x400x32, .i32⟩
  | .hbm, ⟨22, _⟩ => ⟨S80x400x32, .i32⟩
  | .hbm, ⟨23, _⟩ => ⟨S80x400x32, .i32⟩
  | .hbm, ⟨24, _⟩ => ⟨S80x400x32, .i32⟩
  | .hbm, ⟨25, _⟩ => ⟨S80x400x32x1, .i32⟩
  | .hbm, ⟨26, _⟩ => ⟨S80x400x32x1, .i32⟩
  | .hbm, ⟨27, _⟩ => ⟨S80x400x32x2, .i32⟩
  | .hbm, ⟨28, _⟩ => ⟨S80x400x32x128, .bf16⟩
  | .hbm, ⟨29, _⟩ => ⟨S_, .i32⟩
  | .hbm, ⟨30, _⟩ => ⟨S1x400x1, .i32⟩
  | .hbm, ⟨31, _⟩ => ⟨S1x400x1, .i1⟩
  | .hbm, ⟨32, _⟩ => ⟨S_, .i32⟩
  | .hbm, ⟨33, _⟩ => ⟨S1x400x1, .i32⟩
  | .hbm, ⟨34, _⟩ => ⟨S1x400x1, .i32⟩
  | .hbm, ⟨35, _⟩ => ⟨S1x400x1, .i32⟩
  | .hbm, ⟨36, _⟩ => ⟨S_, .i32⟩
  | .hbm, ⟨37, _⟩ => ⟨S80x400x32, .i32⟩
  | .hbm, ⟨38, _⟩ => ⟨S80x400x32, .i1⟩
  | .hbm, ⟨39, _⟩ => ⟨S_, .i32⟩
  | .hbm, ⟨40, _⟩ => ⟨S80x400x32, .i32⟩
  | .hbm, ⟨41, _⟩ => ⟨S80x400x32, .i32⟩
  | .hbm, ⟨42, _⟩ => ⟨S80x400x32, .i32⟩
  | .hbm, ⟨43, _⟩ => ⟨S80x400x32, .i32⟩
  | .hbm, ⟨44, _⟩ => ⟨S80x400x32x1, .i32⟩
  | .hbm, ⟨45, _⟩ => ⟨S80x400x32x1, .i32⟩
  | .hbm, ⟨46, _⟩ => ⟨S80x400x32x2, .i32⟩
  | .hbm, ⟨47, _⟩ => ⟨S80x400x32, .f32⟩
  | .hbm, ⟨48, _⟩ => ⟨S80x400x32, .bf16⟩
  | .hbm, ⟨49, _⟩ => ⟨S80x400x32x1, .bf16⟩
  | .hbm, ⟨50, _⟩ => ⟨S80x400x32x128, .bf16⟩
  | .hbm, ⟨51, _⟩ => ⟨S80x400x32x128, .bf16⟩
  | .hbm, ⟨52, _⟩ => ⟨S80x32x128, .f32⟩
  | .hbm, ⟨53, _⟩ => ⟨S80x32x128, .bf16⟩
  | .hbm, ⟨54, _⟩ => ⟨S80x32x1, .f32⟩
  | .hbm, ⟨55, _⟩ => ⟨S80x32x128, .f32⟩
  | .hbm, ⟨56, _⟩ => ⟨S80x32x128, .f32⟩
  | .hbm, ⟨57, _⟩ => ⟨S80x400, .f32⟩
  | .hbm, ⟨58, _⟩ => ⟨S80x400x1x1, .f32⟩
  | .hbm, ⟨59, _⟩ => ⟨S80x1x32x128, .f32⟩
  | .hbm, ⟨60, _⟩ => ⟨S80x400x32x128, .f32⟩
  | .hbm, ⟨61, _⟩ => ⟨S80x400x32x128, .f32⟩
  | .hbm, ⟨62, _⟩ => ⟨S80x400x32x128, .f32⟩
  | .hbm, ⟨63, _⟩ => ⟨S_, .f32⟩
  | .hbm, ⟨64, _⟩ => ⟨S400x256x128, .f32⟩
  | .hbm, ⟨65, _⟩ => ⟨S_, .i32⟩
  | .hbm, ⟨66, _⟩ => ⟨S1x400x1, .i32⟩
  | .hbm, ⟨67, _⟩ => ⟨S1x400x1, .i1⟩
  | .hbm, ⟨68, _⟩ => ⟨S_, .i32⟩
  | .hbm, ⟨69, _⟩ => ⟨S1x400x1, .i32⟩
  | .hbm, ⟨70, _⟩ => ⟨S1x400x1, .i32⟩
  | .hbm, ⟨71, _⟩ => ⟨S1x400x1, .i32⟩
  | .hbm, ⟨72, _⟩ => ⟨S_, .i32⟩
  | .hbm, ⟨73, _⟩ => ⟨S80x400x32, .i32⟩
  | .hbm, ⟨74, _⟩ => ⟨S80x400x32, .i1⟩
  | .hbm, ⟨75, _⟩ => ⟨S_, .i32⟩
  | .hbm, ⟨76, _⟩ => ⟨S80x400x32, .i32⟩
  | .hbm, ⟨77, _⟩ => ⟨S80x400x32, .i32⟩
  | .hbm, ⟨78, _⟩ => ⟨S80x400x32, .i32⟩
  | .hbm, ⟨79, _⟩ => ⟨S80x400x32, .i32⟩
  | .hbm, ⟨80, _⟩ => ⟨S80x400x32x1, .i32⟩
  | .hbm, ⟨81, _⟩ => ⟨S80x400x32x1, .i32⟩
  | .hbm, ⟨82, _⟩ => ⟨S80x400x32x2, .i32⟩
  | .hbm, ⟨83, _⟩ => ⟨S400x256x128, .f32⟩
  | .hbm, ⟨84, _⟩ => ⟨S2560x128, .bf16⟩
  | .hbm, ⟨85, _⟩ => ⟨S400x256x128, .bf16⟩
  | .local _ .vmem, ⟨0, _⟩ => ⟨S80x32x128, .fp8e4m3⟩
  | .local _ .vmem, ⟨1, _⟩ => ⟨S400x256x128, .fp8e4m3⟩
  | .local _ .vmem, ⟨2, _⟩ => ⟨S80x32x128, .f32⟩
  | .local _ .vmem, ⟨3, _⟩ => ⟨S400x256x128, .bf16⟩
  | _, _ => ⟨S80x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst : Ref sig .tc := ⟨.hbm, 63, rfl⟩
abbrev main_v48 : Ref sig .tc := ⟨.hbm, 64, rfl⟩
abbrev main_c_7 : Ref sig .tc := ⟨.hbm, 65, rfl⟩
abbrev main_v49 : Ref sig .tc := ⟨.hbm, 66, rfl⟩
abbrev main_v50 : Ref sig .tc := ⟨.hbm, 67, rfl⟩
abbrev main_c_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_9 : Ref sig .tc := ⟨.hbm, 72, rfl⟩
abbrev main_v54 : Ref sig .tc := ⟨.hbm, 73, rfl⟩
abbrev main_v55 : Ref sig .tc := ⟨.hbm, 74, rfl⟩
abbrev main_c_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S80x32x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S400x256x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S400x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.RefRun.lean ====
/-
  WHAT THE REFERENCE'S RUN LEAVES (hand-written, untrusted). The reference first widens the two arrays of codes, in one
  launch without a grid, and then computes both gradients by host operations. Here each of its two results is read off the
  run as ONE term over the arguments: the host operations' functions composed. Nothing is computed at an index here.
-/
module

public import proofs.«01_k».proof.Proof.Gen.ReferenceIdeal.Frame
public import Idealize.ShloMosaic.Lib.StableHlo.RunRead
public import Idealize.ShloMosaic.Lib.Pipeline.Value

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

variable {F : FTy → Type} [FloatOps F]

/-! ## The host lines' terms -/

/-- The document numbers `0 … 399`, negative ones wrapped (none is), as a `[1, 400, 1]` array. -/
def docs : Vec F S1x400x1 .i32 :=
  select (cmpi .slt (broadcastInDim S1x400x1 ![1] bcast_S400_S1x400x1_1 (iotaInDim S400 32 0)) (broadcastInDim S1x400x1 ![] bcast_S_S1x400x1 (constantI S_ 32 0#32)))
    (addi (broadcastInDim S1x400x1 ![1] bcast_S400_S1x400x1_1 (iotaInDim S400 32 0)) (broadcastInDim S1x400x1 ![] bcast_S_S1x400x1 (constantI S_ 32 400#32)))
    (broadcastInDim S1x400x1 ![1] bcast_S400_S1x400x1_1 (iotaInDim S400 32 0))

/-- The token numbers of the matches, a negative one wrapped by adding 256. -/
def toks (a4 : Vec F S80x400x32 .i32) : Vec F S80x400x32 .i32 :=
  select (cmpi .slt a4 (broadcastInDim S80x400x32 ![] bcast_S_S80x400x32 (constantI S_ 32 0#32)))
    (addi a4 (broadcastInDim S80x400x32 ![] bcast_S_S80x400x32 (constantI S_ 32 256#32))) a4

/-- The pairs (document, token) at which the gathers read and the scatter adds. -/
def pairs (a4 : Vec F S80x400x32 .i32) : Vec F S80x400x32x2 .i32 :=
  concatenate S80x400x32x2 3
    [⟨S80x400x32x1, broadcastInDim S80x400x32x1 ![0, 1, 2] bcast_S80x400x32_S80x400x32x1_0_1_2 (broadcastInDim S80x400x32 ![0, 1, 2] bcast_S1x400x1_S80x400x32_0_1_2 (docs (F := F)))⟩,
     ⟨S80x400x32x1, broadcastInDim S80x400x32x1 ![0, 1, 2] bcast_S80x400x32_S80x400x32x1_0_1_2 (toks a4)⟩]
    concatenates_S80x400x32x1_S80x400x32x1_S80x400x32x2_d3

/-- The matched document tokens: the codes gathered at the pairs, times their scales gathered at the same pairs. -/
def matched (dw : Vec F S400x256x128 .bf16) (a3 : Vec F S400x256 .f32) (a4 : Vec F S80x400x32 .i32) : Vec F S80x400x32x128 .bf16 :=
  mulf (Host.gather gather_S400x256x128_S80x400x32x2_S80x400x32x128_3_01_n_n_01_3_11128 dw (pairs a4))
    (broadcastInDim S80x400x32x128 ![0, 1, 2, 3] bcast_S80x400x32x1_S80x400x32x128_0_1_2_3
      (broadcastInDim S80x400x32x1 ![0, 1, 2] bcast_S80x400x32_S80x400x32x1_0_1_2
        (truncf .bf16 (Host.gather gather_S400x256_S80x400x32x2_S80x400x32_n_01_n_n_01_3_11 a3 (pairs a4)) bitsLt_bf16_f32)))

/-- The first result before its reshape: the query gradient, one contraction over the documents per query. -/
def dqTerm (dw : Vec F S400x256x128 .bf16) (a3 : Vec F S400x256 .f32) (a4 : Vec F S80x400x32 .i32) (a5 : Vec F S80x400 .bf16) : Vec F S80x32x128 .bf16 :=
  truncf .bf16 (Host.dotGeneral dot_S80x400_S80x400x32x128_S80x32x128_1_1_n_23_0_0 none a5 (matched dw a3 a4)) bitsLt_bf16_f32

/-- What each (query, document, query token) adds to its matched document token: the score times the scaled query token. -/
def contrib (qw : Vec F S80x32x128 .f32) (a1 : Vec F S80x32 .f32) (a5 : Vec F S80x400 .bf16) : Vec F S80x400x32x128 .f32 :=
  mulf (broadcastInDim S80x400x32x128 ![0, 1, 2, 3] bcast_S80x400x1x1_S80x400x32x128_0_1_2_3
      (broadcastInDim S80x400x1x1 ![0, 1] bcast_S80x400_S80x400x1x1_0_1 (extf .f32 a5 bitsLt_bf16_f32)))
    (broadcastInDim S80x400x32x128 ![0, 1, 2, 3] bcast_S80x1x32x128_S80x400x32x128_0_1_2_3
      (broadcastInDim S80x1x32x128 ![0, 2, 3] bcast_S80x32x128_S80x1x32x128_0_2_3
        (mulf qw (broadcastInDim S80x32x128 ![0, 1, 2] bcast_S80x32x1_S80x32x128_0_1_2 (broadcastInDim S80x32x1 ![0, 1] bcast_S80x32_S80x32x1_0_1 a1)))))

/-- The second result: the contributions added into zeros at their pairs. -/
def ddTerm (qw : Vec F S80x32x128 .f32) (a1 : Vec F S80x32 .f32) (a4 : Vec F S80x400x32 .i32) (a5 : Vec F S80x400 .bf16) : Vec F S400x256x128 .bf16 :=
  truncf .bf16 (Host.scatterAdd scatter_S400x256x128_S80x400x32x2_S80x400x32x128_3_01_01_3
    (broadcastInDim S400x256x128 ![] bcast_S_S400x256x128 (constant S_ .f32 0x00000000#32)) (pairs a4) (contrib qw a1 a5)) bitsLt_bf16_f32

/-! ## The reads -/

set_option maxHeartbeats 4000000 in
/-- After the host lines the first result is `dqTerm`, reshaped. -/
theorem read_dq (V : Valuation τ sig (Elt F)) :
    StableHlo.after hostOps1 V (Proc.devRef .tc main_v64)
      = shapeCast S2560x128 (dqTerm (V (Proc.devRef .tc main_v0_1)) (V (Proc.devRef .tc main_arg3)) (V (Proc.devRef .tc main_arg4)) (V (Proc.devRef .tc main_arg5)))
          shapeCasts_S80x32x128_S2560x128 := by
  after_reads_simp
  rfl

set_option maxHeartbeats 4000000 in
/-- After the host lines the second result is `ddTerm`. -/
theorem read_dd (V : Valuation τ sig (Elt F)) :
    StableHlo.after hostOps1 V (Proc.devRef .tc main_v65)
      = ddTerm (V (Proc.devRef .tc main_v0_0)) (V (Proc.devRef .tc main_arg1)) (V (Proc.devRef .tc main_arg4)) (V (Proc.devRef .tc main_arg5)) := by
  after_reads_simp
  rfl

/-! ## The launch that widens, and the whole run -/

variable (m : (ℓ : Loc nD τ sig) → Buf (Elt F) ℓ) (ρ : Dev nD → PrngReg)

/-- The rank-3 offset of zeros. -/
theorem hz3 : (![0, 0, 0] : Fin 3 → Nat) = fun _ => 0 := funext fun a => by fin_cases a <;> rfl

/-- The widening launch reads the whole array of query codes. -/
theorem iblk0_eq (c : Dev nD) (t : Fin cfg0.N) : iblk m c 0 t = m ((c : Thread nD τ).loc main_arg0) := by
  obtain rfl := fin_N0 t
  have hz' : (fun a => win0_0.index t0_0 a * main_arg0.ty.shape.size a) = fun _ => 0 := funext fun a => by fin_cases a <;> decide
  exact Memref.read_access_unit_zero (Elt F) main_arg0 hz' (fun a => by rw [congrFun hz' a]; simp) (m ((c : Thread nD τ).loc main_arg0))

/-- It reads the whole array of document codes. -/
theorem iblk1_eq (c : Dev nD) (t : Fin cfg0.N) : iblk m c 1 t = m ((c : Thread nD τ).loc main_arg2) := by
  obtain rfl := fin_N0 t
  have hz' : (fun a => win0_1.index t0_0 a * main_arg2.ty.shape.size a) = fun _ => 0 := funext fun a => by fin_cases a <;> decide
  exact Memref.read_access_unit_zero (Elt F) main_arg2 hz' (fun a => by rw [congrFun hz' a]; simp) (m ((c : Thread nD τ).loc main_arg2))

/-- The launch's first result: the query codes, widened. -/
theorem arr2_eq (c : Dev nD) : (dats m 0 c).arrAt 2 cfg0.N = (extf .f32 (m ((c : Thread nD τ).loc main_arg0) : Vec F S80x32x128 .fp8e4m3) bitsLt_fp8e4m3_f32 : Vec F S80x32x128 .f32) :=
  (dats m 0 c).arrAt_eq_of_cover 2 _ (fun t _ => by
    obtain rfl := fin_N0 t
    show (cfg0.win 2).cut (grid0.coords t0_0) ((dats m 0 c).after 2 t0_0) = _
    rw [after0_2, iblk0_eq, iblk1_eq]
    unfold out0_2
    rw [View.canon_unit_zero hz3, View.ld_unit_zero (S := S80x32x128) hz3]
    have hz' : (fun a => win0_2.index t0_0 a * main_v0_0.ty.shape.size a) = fun _ => 0 := funext fun a => by fin_cases a <;> decide
    exact (Memref.read_access_unit_zero (Elt F) main_v0_0 hz' (fun a => by rw [congrFun hz' a]; simp) _).symm) fun i =>
    ⟨t0_0, flush0_2 t0_0, by
      show i ∈ ((View.whole main_v0_0).slice (win0_2.rect t0_0)).set
      rw [View.set_slice_whole, Rect.mem_set_unit]
      intro a
      have hz' : ∀ a, win0_2.index t0_0 a * main_v0_0.ty.shape.size a = 0 := fun a => by fin_cases a <;> decide
      have hi : (i a : Nat) < main_v0_0.ty.shape.size a := (i a).isLt
      show win0_2.index t0_0 a * main_v0_0.ty.shape.size a ≤ (i a : Nat) ∧ (i a : Nat) < win0_2.index t0_0 a * main_v0_0.ty.shape.size a + main_v0_0.ty.shape.size a
      rw [hz' a]; omega⟩

/-- Its second result: the document codes, widened. -/
theorem arr3_eq (c : Dev nD) : (dats m 0 c).arrAt 3 cfg0.N = (extf .bf16 (m ((c : Thread nD τ).loc main_arg2) : Vec F S400x256x128 .fp8e4m3) bitsLt_fp8e4m3_bf16 : Vec F S400x256x128 .bf16) :=
  (dats m 0 c).arrAt_eq_of_cover 3 _ (fun t _ => by
    obtain rfl := fin_N0 t
    show (cfg0.win 3).cut (grid0.coords t0_0) ((dats m 0 c).after 3 t0_0) = _
    rw [after0_3, iblk0_eq, iblk1_eq]
    unfold out0_3
    rw [View.canon_unit_zero hz3, View.ld_unit_zero (S := S400x256x128) hz3]
    have hz' : (fun a => win0_3.index t0_0 a * main_v0_1.ty.shape.size a) = fun _ => 0 := funext fun a => by fin_cases a <;> decide
    exact (Memref.read_access_unit_zero (Elt F) main_v0_1 hz' (fun a => by rw [congrFun hz' a]; simp) _).symm) fun i =>
    ⟨t0_0, flush0_3 t0_0, by
      show i ∈ ((View.whole main_v0_1).slice (win0_3.rect t0_0)).set
      rw [View.set_slice_whole, Rect.mem_set_unit]
      intro a
      have hz' : ∀ a, win0_3.index t0_0 a * main_v0_1.ty.shape.size a = 0 := fun a => by fin_cases a <;> decide
      have hi : (i a : Nat) < main_v0_1.ty.shape.size a := (i a).isLt
      show win0_3.index t0_0 a * main_v0_1.ty.shape.size a ≤ (i a : Nat) ∧ (i a : Nat) < win0_3.index t0_0 a * main_v0_1.ty.shape.size a + main_v0_1.ty.shape.size a
      rw [hz' a]; omega⟩

/-- The buffer contents the host lines start from: the launch's two results, every other buffer as it was. -/
abbrev exitV (c : Dev nD) : Valuation τ sig (Elt F) :=
  Pipeline.withArrays (cfgs 0).spec c (V0 m c) fun w => (dats m 0 c).arrAt w (cfgs 0).N

/-- After the widening launch, its first result holds the widened query codes. -/
theorem exitV_v0_0 (c : Dev nD) : exitV m c (Proc.devRef .tc main_v0_0) = (extf .f32 (m ((c : Thread nD τ).loc main_arg0) : Vec F S80x32x128 .fp8e4m3) bitsLt_fp8e4m3_f32 : Vec F S80x32x128 .f32) :=
  (Pipeline.withArrays_arr (cfgs 0).spec (by decide) c (V0 m c) _ 2).trans (arr2_eq m c)

/-- Its second result holds the widened document codes. -/
theorem exitV_v0_1 (c : Dev nD) : exitV m c (Proc.devRef .tc main_v0_1) = (extf .bf16 (m ((c : Thread nD τ).loc main_arg2) : Vec F S400x256x128 .fp8e4m3) bitsLt_fp8e4m3_bf16 : Vec F S400x256x128 .bf16) :=
  (Pipeline.withArrays_arr (cfgs 0).spec (by decide) c (V0 m c) _ 3).trans (arr3_eq m c)

/-- The query scales are as they were. -/
theorem exitV_arg1 (c : Dev nD) : exitV m c (Proc.devRef .tc main_arg1) = m ((c : Thread nD τ).loc main_arg1) :=
  Pipeline.withArrays_of_ne (cfgs 0).spec c (V0 m c) _ main_arg1 (by decide)
/-- The document scales are as they were. -/
theorem exitV_arg3 (c : Dev nD) : exitV m c (Proc.devRef .tc main_arg3) = m ((c : Thread nD τ).loc main_arg3) :=
  Pipeline.withArrays_of_ne (cfgs 0).spec c (V0 m c) _ main_arg3 (by decide)
/-- The matched token numbers are as they were. -/
theorem exitV_arg4 (c : Dev nD) : exitV m c (Proc.devRef .tc main_arg4) = m ((c : Thread nD τ).loc main_arg4) :=
  Pipeline.withArrays_of_ne (cfgs 0).spec c (V0 m c) _ main_arg4 (by decide)
/-- The scores are as they were. -/
theorem exitV_arg5 (c : Dev nD) : exitV m c (Proc.devRef .tc main_arg5) = m ((c : Thread nD τ).loc main_arg5) :=
  Pipeline.withArrays_of_ne (cfgs 0).spec c (V0 m c) _ main_arg5 (by decide)

/-- The first result of the reference over the arguments. -/
def refDq (a2 : Vec F S400x256x128 .fp8e4m3) (a3 : Vec F S400x256 .f32) (a4 : Vec F S80x400x32 .i32) (a5 : Vec F S80x400 .bf16) : Vec F S2560x128 .bf16 :=
  shapeCast S2560x128 (dqTerm (extf .bf16 a2 bitsLt_fp8e4m3_bf16) a3 a4 a5) shapeCasts_S80x32x128_S2560x128

/-- The second result of the reference over the arguments. -/
def refDd (a0 : Vec F S80x32x128 .fp8e4m3) (a1 : Vec F S80x32 .f32) (a4 : Vec F S80x400x32 .i32) (a5 : Vec F S80x400 .bf16) : Vec F S400x256x128 .bf16 :=
  ddTerm (extf .f32 a0 bitsLt_fp8e4m3_f32) a1 a4 a5

/-- The host lines leave `refDq` in the first result. -/
theorem tail_dq (c : Dev nD) : Pipeline.afterTail₀ cfgs (dats m) 0 (V0 m) [hostOps1] c main_v64
    = refDq (m ((c : Thread nD τ).loc main_arg2)) (m ((c : Thread nD τ).loc main_arg3)) (m ((c : Thread nD τ).loc main_arg4)) (m ((c : Thread nD τ).loc main_arg5)) := by
  unfold Pipeline.afterTail₀
  rw [List.flatten_cons, List.flatten_nil, List.append_nil]
  refine (read_dq (exitV m c)).trans ?_
  rw [exitV_v0_1 m c, exitV_arg3 m c, exitV_arg4 m c, exitV_arg5 m c]
  rfl

/-- The host lines leave `refDd` in the second result. -/
theorem tail_dd (c : Dev nD) : Pipeline.afterTail₀ cfgs (dats m) 0 (V0 m) [hostOps1] c main_v65
    = refDd (m ((c : Thread nD τ).loc main_arg0)) (m ((c : Thread nD τ).loc main_arg1)) (m ((c : Thread nD τ).loc main_arg4)) (m ((c : Thread nD τ).loc main_arg5)) := by
  unfold Pipeline.afterTail₀
  rw [List.flatten_cons, List.flatten_nil, List.append_nil]
  refine (read_dd (exitV m c)).trans ?_
  rw [exitV_v0_0 m c, exitV_arg1 m c, exitV_arg4 m c, exitV_arg5 m c]
  rfl

/-- THE REFERENCE'S RUN: it ends with its two results at the terms above over the arguments as launched, the arguments unchanged. -/
theorem run : θ_run defs (onTc (τ := τ) (main (F := F))) ⟨m, fun _ => 0, ρ⟩ (fun r => ∀ c : Dev nD,
      r.2.mem ((c.tc : Thread nD τ).loc main_v64) = refDq (m ((c : Thread nD τ).loc main_arg2)) (m ((c : Thread nD τ).loc main_arg3)) (m ((c : Thread nD τ).loc main_arg4)) (m ((c : Thread nD τ).loc main_arg5))
      ∧ r.2.mem ((c.tc : Thread nD τ).loc main_v65) = refDd (m ((c : Thread nD τ).loc main_arg0)) (m ((c : Thread nD τ).loc main_arg1)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v64 (Pipeline.mem_restRefs_of main_v64 (by decide) (by decide))).trans (tail_dq m c),
      ((h c).2 main_v65 (Pipeline.mem_restRefs_of main_v65 (by decide) (by decide))).trans (tail_dd m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.ReferenceIdeal.Value

end
-- ==== Proof.KernelBlock.lean ====
/-
  WHAT ONE GRID POINT COMPUTES (hand-written, untrusted). The frame names, per case of the body's two conditions (A: the
  first point, B: a middle point, C: the last point), what each output block and each scratch holds after the body. Here
  each of those is given in closed form, as one of the body's payload functions over the input blocks and the scratch.
-/
module

public import proofs.«01_k».proof.Proof.Gen.KernelIdeal.Value

@[expose] public section

set_option maxRecDepth 16384

noncomputable section

namespace Cert.KernelIdeal.Value

open Idealize.ShloMosaic Idealize.ShloMosaic.TcCoe Idealize.ShloMosaic.Tactic
open Cert.KernelIdeal Cert.KernelIdeal.Gen

variable {F : FTy → Type} [FloatOps F]

/-- The rank-2 offset of zeros. -/
theorem hz2 : (![0, 0] : Fin 2 → Nat) = fun _ => 0 := funext fun a => by fin_cases a <;> rfl
/-- The rank-3 offset of zeros. -/
theorem hz3 : (![0, 0, 0] : Fin 3 → Nat) = fun _ => 0 := funext fun a => by fin_cases a <;> rfl

/-- At the first point the document block is the one-hot product with the query codes just widened into scratch. -/
theorem out0_A_7_eq (c : Dev nD) (i : grid0.Coords) (arg1 : Memref sig .tc .vmem S1x1x2560 .i32) (harg1 : arg1.IsWhole) (arg2 : Memref sig .tc .vmem S1x1x2560 .bf16) (harg2 : arg2.IsWhole) (arg3 : Memref sig .tc .vmem S1x2560 .f32) (harg3 : arg3.IsWhole) (arg4 : Memref sig .tc .vmem S2560x128 .fp8e4m3) (harg4 : arg4.IsWhole) (arg5 : Memref sig .tc .vmem S1x256x128 .fp8e4m3) (harg5 : arg5.IsWhole) (arg6 : Memref sig .tc .vmem S1x256x1 .f32) (harg6 : arg6.IsWhole) (arg7 : Memref sig .tc .vmem S2560x128 .bf16) (harg7 : arg7.IsWhole) (arg8 : Memref sig .tc .vmem S1x256x128 .bf16) (harg8 : arg8.IsWhole) (arg9 : Memref sig .tc .vmem S2560x128 .bf16) (harg9 : arg9.IsWhole) (arg10 : Memref sig .tc .vmem S128x2560 .f32) (harg10 : arg10.IsWhole) (hc0 : cond0_0 i) (hc1 : ¬cond0_1 i)
    (x0 : Vec F S1x1x2560 .i32) (x1 : Vec F S1x1x2560 .bf16) (x2 : Vec F S1x2560 .f32) (x3 : Vec F S2560x128 .fp8e4m3) (x4 : Vec F S1x256x128 .fp8e4m3) (x5 : Vec F S1x256x1 .f32) :
    out0_A_7 c i arg1 harg1 arg2 harg2 arg3 harg3 arg4 harg4 arg5 harg5 arg6 harg6 arg7 harg7 arg8 harg8 arg9 harg9 arg10 harg10 hc0 hc1 x0 x1 x2 x3 x4 x5 = k0_pay7 x0 x1 x2 (k0_pay3 x3) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  first
  | rw [View.canon_unit_zero (S := S1x256x128) hz3]
  | rw [View.canon_cons_unit_zero (S := S1x256x128) hz3]
  try rw [View.readCov_unit_zero (S := S2560x128) _ hz2]
  try rw [View.readCov_unit_zero (S := S128x2560) _ hz2]
  simp only [View.readAt_eq_ld, harg1.read_unread, harg2.read_unread, harg3.read_unread, harg4.read_unread, harg5.read_unread, harg6.read_unread, harg9.read_unread, harg10.read_unread, View.ld_unit_zero (S := S1x1x2560) hz3, View.ld_unit_zero (S := S1x2560) hz2, View.ld_unit_zero (S := S2560x128) hz2, View.ld_unit_zero (S := S1x256x128) hz3, View.ld_unit_zero (S := S1x256x1) hz3, View.ld_unit_zero (S := S128x2560) hz2]

/-- The first point widens the query codes into scratch 0. -/
theorem sout0_A_0_eq (c : Dev nD) (i : grid0.Coords) (arg1 : Memref sig .tc .vmem S1x1x2560 .i32) (harg1 : arg1.IsWhole) (arg2 : Memref sig .tc .vmem S1x1x2560 .bf16) (harg2 : arg2.IsWhole) (arg3 : Memref sig .tc .vmem S1x2560 .f32) (harg3 : arg3.IsWhole) (arg4 : Memref sig .tc .vmem S2560x128 .fp8e4m3) (harg4 : arg4.IsWhole) (arg5 : Memref sig .tc .vmem S1x256x128 .fp8e4m3) (harg5 : arg5.IsWhole) (arg6 : Memref sig .tc .vmem S1x256x1 .f32) (harg6 : arg6.IsWhole) (arg7 : Memref sig .tc .vmem S2560x128 .bf16) (harg7 : arg7.IsWhole) (arg8 : Memref sig .tc .vmem S1x256x128 .bf16) (harg8 : arg8.IsWhole) (arg9 : Memref sig .tc .vmem S2560x128 .bf16) (harg9 : arg9.IsWhole) (arg10 : Memref sig .tc .vmem S128x2560 .f32) (harg10 : arg10.IsWhole) (hc0 : cond0_0 i) (hc1 : ¬cond0_1 i)
    (x0 : Vec F S1x1x2560 .i32) (x1 : Vec F S1x1x2560 .bf16) (x2 : Vec F S1x2560 .f32) (x3 : Vec F S2560x128 .fp8e4m3) (x4 : Vec F S1x256x128 .fp8e4m3) (x5 : Vec F S1x256x1 .f32) :
    sout0_A_0 c i arg1 harg1 arg2 harg2 arg3 harg3 arg4 harg4 arg5 harg5 arg6 harg6 arg7 harg7 arg8 harg8 arg9 harg9 arg10 harg10 hc0 hc1 x0 x1 x2 x3 x4 x5 = k0_pay3 x3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  first
  | rw [View.canon_unit_zero (S := S2560x128) hz2]
  | rw [View.canon_cons_unit_zero (S := S2560x128) hz2]
  try rw [View.readCov_unit_zero (S := S2560x128) _ hz2]
  try rw [View.readCov_unit_zero (S := S128x2560) _ hz2]
  simp only [View.readAt_eq_ld, harg1.read_unread, harg2.read_unread, harg3.read_unread, harg4.read_unread, harg5.read_unread, harg6.read_unread, harg9.read_unread, harg10.read_unread, View.ld_unit_zero (S := S1x1x2560) hz3, View.ld_unit_zero (S := S1x2560) hz2, View.ld_unit_zero (S := S2560x128) hz2, View.ld_unit_zero (S := S1x256x128) hz3, View.ld_unit_zero (S := S1x256x1) hz3, View.ld_unit_zero (S := S128x2560) hz2]

/-- The first point adds its product to zeros in scratch 1. -/
theorem sout0_A_1_eq (c : Dev nD) (i : grid0.Coords) (arg1 : Memref sig .tc .vmem S1x1x2560 .i32) (harg1 : arg1.IsWhole) (arg2 : Memref sig .tc .vmem S1x1x2560 .bf16) (harg2 : arg2.IsWhole) (arg3 : Memref sig .tc .vmem S1x2560 .f32) (harg3 : arg3.IsWhole) (arg4 : Memref sig .tc .vmem S2560x128 .fp8e4m3) (harg4 : arg4.IsWhole) (arg5 : Memref sig .tc .vmem S1x256x128 .fp8e4m3) (harg5 : arg5.IsWhole) (arg6 : Memref sig .tc .vmem S1x256x1 .f32) (harg6 : arg6.IsWhole) (arg7 : Memref sig .tc .vmem S2560x128 .bf16) (harg7 : arg7.IsWhole) (arg8 : Memref sig .tc .vmem S1x256x128 .bf16) (harg8 : arg8.IsWhole) (arg9 : Memref sig .tc .vmem S2560x128 .bf16) (harg9 : arg9.IsWhole) (arg10 : Memref sig .tc .vmem S128x2560 .f32) (harg10 : arg10.IsWhole) (hc0 : cond0_0 i) (hc1 : ¬cond0_1 i)
    (x0 : Vec F S1x1x2560 .i32) (x1 : Vec F S1x1x2560 .bf16) (x2 : Vec F S1x2560 .f32) (x3 : Vec F S2560x128 .fp8e4m3) (x4 : Vec F S1x256x128 .fp8e4m3) (x5 : Vec F S1x256x1 .f32) :
    sout0_A_1 c i arg1 harg1 arg2 harg2 arg3 harg3 arg4 harg4 arg5 harg5 arg6 harg6 arg7 harg7 arg8 harg8 arg9 harg9 arg10 harg10 hc0 hc1 x0 x1 x2 x3 x4 x5 = k0_pay1 (k0_pay8 x0 x1) (k0_pay9 x4) x5 (k0_pay4 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  first
  | rw [View.canon_unit_zero (S := S128x2560) hz2]
  | rw [View.canon_cons_unit_zero (S := S128x2560) hz2]
  try rw [View.readCov_unit_zero (S := S2560x128) _ hz2]
  try rw [View.readCov_unit_zero (S := S128x2560) _ hz2]
  simp only [View.readAt_eq_ld, harg1.read_unread, harg2.read_unread, harg3.read_unread, harg4.read_unread, harg5.read_unread, harg6.read_unread, harg9.read_unread, harg10.read_unread, View.ld_unit_zero (S := S1x1x2560) hz3, View.ld_unit_zero (S := S1x2560) hz2, View.ld_unit_zero (S := S2560x128) hz2, View.ld_unit_zero (S := S1x256x128) hz3, View.ld_unit_zero (S := S1x256x1) hz3, View.ld_unit_zero (S := S128x2560) hz2]

/-- A middle point writes the one-hot product with the query codes scratch 0 holds. -/
theorem out0_B_7_eq (c : Dev nD) (i : grid0.Coords) (arg1 : Memref sig .tc .vmem S1x1x2560 .i32) (harg1 : arg1.IsWhole) (arg2 : Memref sig .tc .vmem S1x1x2560 .bf16) (harg2 : arg2.IsWhole) (arg3 : Memref sig .tc .vmem S1x2560 .f32) (harg3 : arg3.IsWhole) (arg4 : Memref sig .tc .vmem S2560x128 .fp8e4m3) (harg4 : arg4.IsWhole) (arg5 : Memref sig .tc .vmem S1x256x128 .fp8e4m3) (harg5 : arg5.IsWhole) (arg6 : Memref sig .tc .vmem S1x256x1 .f32) (harg6 : arg6.IsWhole) (arg7 : Memref sig .tc .vmem S2560x128 .bf16) (harg7 : arg7.IsWhole) (arg8 : Memref sig .tc .vmem S1x256x128 .bf16) (harg8 : arg8.IsWhole) (arg9 : Memref sig .tc .vmem S2560x128 .bf16) (harg9 : arg9.IsWhole) (arg10 : Memref sig .tc .vmem S128x2560 .f32) (harg10 : arg10.IsWhole) (hc0 : ¬cond0_0 i) (hc1 : ¬cond0_1 i)
    (x0 : Vec F S1x1x2560 .i32) (x1 : Vec F S1x1x2560 .bf16) (x2 : Vec F S1x2560 .f32) (x3 : Vec F S2560x128 .fp8e4m3) (x4 : Vec F S1x256x128 .fp8e4m3) (x5 : Vec F S1x256x1 .f32) (xs0 : Vec F S2560x128 .bf16) (xs1 : Vec F S128x2560 .f32) :
    out0_B_7 c i arg1 harg1 arg2 harg2 arg3 harg3 arg4 harg4 arg5 harg5 arg6 harg6 arg7 harg7 arg8 harg8 arg9 harg9 arg10 harg10 hc0 hc1 x0 x1 x2 x3 x4 x5 xs0 xs1 = k0_pay7 x0 x1 x2 xs0 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  first
  | rw [View.canon_unit_zero (S := S1x256x128) hz3]
  | rw [View.canon_cons_unit_zero (S := S1x256x128) hz3]
  try rw [View.readCov_unit_zero (S := S2560x128) _ hz2]
  try rw [View.readCov_unit_zero (S := S128x2560) _ hz2]
  simp only [View.readAt_eq_ld, harg1.read_unread, harg2.read_unread, harg3.read_unread, harg4.read_unread, harg5.read_unread, harg6.read_unread, harg9.read_unread, harg10.read_unread, View.ld_unit_zero (S := S1x1x2560) hz3, View.ld_unit_zero (S := S1x2560) hz2, View.ld_unit_zero (S := S2560x128) hz2, View.ld_unit_zero (S := S1x256x128) hz3, View.ld_unit_zero (S := S1x256x1) hz3, View.ld_unit_zero (S := S128x2560) hz2]

/-- A middle point adds its product to what scratch 1 holds. -/
theorem sout0_B_1_eq (c : Dev nD) (i : grid0.Coords) (arg1 : Memref sig .tc .vmem S1x1x2560 .i32) (harg1 : arg1.IsWhole) (arg2 : Memref sig .tc .vmem S1x1x2560 .bf16) (harg2 : arg2.IsWhole) (arg3 : Memref sig .tc .vmem S1x2560 .f32) (harg3 : arg3.IsWhole) (arg4 : Memref sig .tc .vmem S2560x128 .fp8e4m3) (harg4 : arg4.IsWhole) (arg5 : Memref sig .tc .vmem S1x256x128 .fp8e4m3) (harg5 : arg5.IsWhole) (arg6 : Memref sig .tc .vmem S1x256x1 .f32) (harg6 : arg6.IsWhole) (arg7 : Memref sig .tc .vmem S2560x128 .bf16) (harg7 : arg7.IsWhole) (arg8 : Memref sig .tc .vmem S1x256x128 .bf16) (harg8 : arg8.IsWhole) (arg9 : Memref sig .tc .vmem S2560x128 .bf16) (harg9 : arg9.IsWhole) (arg10 : Memref sig .tc .vmem S128x2560 .f32) (harg10 : arg10.IsWhole) (hc0 : ¬cond0_0 i) (hc1 : ¬cond0_1 i)
    (x0 : Vec F S1x1x2560 .i32) (x1 : Vec F S1x1x2560 .bf16) (x2 : Vec F S1x2560 .f32) (x3 : Vec F S2560x128 .fp8e4m3) (x4 : Vec F S1x256x128 .fp8e4m3) (x5 : Vec F S1x256x1 .f32) (xs0 : Vec F S2560x128 .bf16) (xs1 : Vec F S128x2560 .f32) :
    sout0_B_1 c i arg1 harg1 arg2 harg2 arg3 harg3 arg4 harg4 arg5 harg5 arg6 harg6 arg7 harg7 arg8 harg8 arg9 harg9 arg10 harg10 hc0 hc1 x0 x1 x2 x3 x4 x5 xs0 xs1 = k0_pay1 (k0_pay8 x0 x1) (k0_pay9 x4) x5 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  first
  | rw [View.canon_unit_zero (S := S128x2560) hz2]
  | rw [View.canon_cons_unit_zero (S := S128x2560) hz2]
  try rw [View.readCov_unit_zero (S := S2560x128) _ hz2]
  try rw [View.readCov_unit_zero (S := S128x2560) _ hz2]
  simp only [View.readAt_eq_ld, harg1.read_unread, harg2.read_unread, harg3.read_unread, harg4.read_unread, harg5.read_unread, harg6.read_unread, harg9.read_unread, harg10.read_unread, View.ld_unit_zero (S := S1x1x2560) hz3, View.ld_unit_zero (S := S1x2560) hz2, View.ld_unit_zero (S := S2560x128) hz2, View.ld_unit_zero (S := S1x256x128) hz3, View.ld_unit_zero (S := S1x256x1) hz3, View.ld_unit_zero (S := S128x2560) hz2]

/-- A middle point leaves scratch 0 as it was. -/
theorem sout0_B_0_eq (c : Dev nD) (i : grid0.Coords) (arg1 : Memref sig .tc .vmem S1x1x2560 .i32) (harg1 : arg1.IsWhole) (arg2 : Memref sig .tc .vmem S1x1x2560 .bf16) (harg2 : arg2.IsWhole) (arg3 : Memref sig .tc .vmem S1x2560 .f32) (harg3 : arg3.IsWhole) (arg4 : Memref sig .tc .vmem S2560x128 .fp8e4m3) (harg4 : arg4.IsWhole) (arg5 : Memref sig .tc .vmem S1x256x128 .fp8e4m3) (harg5 : arg5.IsWhole) (arg6 : Memref sig .tc .vmem S1x256x1 .f32) (harg6 : arg6.IsWhole) (arg7 : Memref sig .tc .vmem S2560x128 .bf16) (harg7 : arg7.IsWhole) (arg8 : Memref sig .tc .vmem S1x256x128 .bf16) (harg8 : arg8.IsWhole) (arg9 : Memref sig .tc .vmem S2560x128 .bf16) (harg9 : arg9.IsWhole) (arg10 : Memref sig .tc .vmem S128x2560 .f32) (harg10 : arg10.IsWhole) (hc0 : ¬cond0_0 i) (hc1 : ¬cond0_1 i)
    (x0 : Vec F S1x1x2560 .i32) (x1 : Vec F S1x1x2560 .bf16) (x2 : Vec F S1x2560 .f32) (x3 : Vec F S2560x128 .fp8e4m3) (x4 : Vec F S1x256x128 .fp8e4m3) (x5 : Vec F S1x256x1 .f32) (xs0 : Vec F S2560x128 .bf16) (xs1 : Vec F S128x2560 .f32) :
    sout0_B_0 c i arg1 harg1 arg2 harg2 arg3 harg3 arg4 harg4 arg5 harg5 arg6 harg6 arg7 harg7 arg8 harg8 arg9 harg9 arg10 harg10 hc0 hc1 x0 x1 x2 x3 x4 x5 xs0 xs1 = xs0 := rfl

/-- The last point writes the one-hot product with the query codes scratch 0 holds. -/
theorem out0_C_7_eq (c : Dev nD) (i : grid0.Coords) (arg1 : Memref sig .tc .vmem S1x1x2560 .i32) (harg1 : arg1.IsWhole) (arg2 : Memref sig .tc .vmem S1x1x2560 .bf16) (harg2 : arg2.IsWhole) (arg3 : Memref sig .tc .vmem S1x2560 .f32) (harg3 : arg3.IsWhole) (arg4 : Memref sig .tc .vmem S2560x128 .fp8e4m3) (harg4 : arg4.IsWhole) (arg5 : Memref sig .tc .vmem S1x256x128 .fp8e4m3) (harg5 : arg5.IsWhole) (arg6 : Memref sig .tc .vmem S1x256x1 .f32) (harg6 : arg6.IsWhole) (arg7 : Memref sig .tc .vmem S2560x128 .bf16) (harg7 : arg7.IsWhole) (arg8 : Memref sig .tc .vmem S1x256x128 .bf16) (harg8 : arg8.IsWhole) (arg9 : Memref sig .tc .vmem S2560x128 .bf16) (harg9 : arg9.IsWhole) (arg10 : Memref sig .tc .vmem S128x2560 .f32) (harg10 : arg10.IsWhole) (hc0 : ¬cond0_0 i) (hc1 : cond0_1 i)
    (x0 : Vec F S1x1x2560 .i32) (x1 : Vec F S1x1x2560 .bf16) (x2 : Vec F S1x2560 .f32) (x3 : Vec F S2560x128 .fp8e4m3) (x4 : Vec F S1x256x128 .fp8e4m3) (x5 : Vec F S1x256x1 .f32) (xs0 : Vec F S2560x128 .bf16) (xs1 : Vec F S128x2560 .f32) :
    out0_C_7 c i arg1 harg1 arg2 harg2 arg3 harg3 arg4 harg4 arg5 harg5 arg6 harg6 arg7 harg7 arg8 harg8 arg9 harg9 arg10 harg10 hc0 hc1 x0 x1 x2 x3 x4 x5 xs0 xs1 = k0_pay7 x0 x1 x2 xs0 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  first
  | rw [View.canon_unit_zero (S := S1x256x128) hz3]
  | rw [View.canon_cons_unit_zero (S := S1x256x128) hz3]
  try rw [View.readCov_unit_zero (S := S2560x128) _ hz2]
  try rw [View.readCov_unit_zero (S := S128x2560) _ hz2]
  simp only [View.readAt_eq_ld, harg1.read_unread, harg2.read_unread, harg3.read_unread, harg4.read_unread, harg5.read_unread, harg6.read_unread, harg9.read_unread, harg10.read_unread, View.ld_unit_zero (S := S1x1x2560) hz3, View.ld_unit_zero (S := S1x2560) hz2, View.ld_unit_zero (S := S2560x128) hz2, View.ld_unit_zero (S := S1x256x128) hz3, View.ld_unit_zero (S := S1x256x1) hz3, View.ld_unit_zero (S := S128x2560) hz2]

/-- The last point adds its product to what scratch 1 holds. -/
theorem sout0_C_1_eq (c : Dev nD) (i : grid0.Coords) (arg1 : Memref sig .tc .vmem S1x1x2560 .i32) (harg1 : arg1.IsWhole) (arg2 : Memref sig .tc .vmem S1x1x2560 .bf16) (harg2 : arg2.IsWhole) (arg3 : Memref sig .tc .vmem S1x2560 .f32) (harg3 : arg3.IsWhole) (arg4 : Memref sig .tc .vmem S2560x128 .fp8e4m3) (harg4 : arg4.IsWhole) (arg5 : Memref sig .tc .vmem S1x256x128 .fp8e4m3) (harg5 : arg5.IsWhole) (arg6 : Memref sig .tc .vmem S1x256x1 .f32) (harg6 : arg6.IsWhole) (arg7 : Memref sig .tc .vmem S2560x128 .bf16) (harg7 : arg7.IsWhole) (arg8 : Memref sig .tc .vmem S1x256x128 .bf16) (harg8 : arg8.IsWhole) (arg9 : Memref sig .tc .vmem S2560x128 .bf16) (harg9 : arg9.IsWhole) (arg10 : Memref sig .tc .vmem S128x2560 .f32) (harg10 : arg10.IsWhole) (hc0 : ¬cond0_0 i) (hc1 : cond0_1 i)
    (x0 : Vec F S1x1x2560 .i32) (x1 : Vec F S1x1x2560 .bf16) (x2 : Vec F S1x2560 .f32) (x3 : Vec F S2560x128 .fp8e4m3) (x4 : Vec F S1x256x128 .fp8e4m3) (x5 : Vec F S1x256x1 .f32) (xs0 : Vec F S2560x128 .bf16) (xs1 : Vec F S128x2560 .f32) :
    sout0_C_1 c i arg1 harg1 arg2 harg2 arg3 harg3 arg4 harg4 arg5 harg5 arg6 harg6 arg7 harg7 arg8 harg8 arg9 harg9 arg10 harg10 hc0 hc1 x0 x1 x2 x3 x4 x5 xs0 xs1 = k0_pay1 (k0_pay8 x0 x1) (k0_pay9 x4) x5 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  first
  | rw [View.canon_unit_zero (S := S128x2560) hz2]
  | rw [View.canon_cons_unit_zero (S := S128x2560) hz2]
  try rw [View.readCov_unit_zero (S := S2560x128) _ hz2]
  try rw [View.readCov_unit_zero (S := S128x2560) _ hz2]
  simp only [View.readAt_eq_ld, harg1.read_unread, harg2.read_unread, harg3.read_unread, harg4.read_unread, harg5.read_unread, harg6.read_unread, harg9.read_unread, harg10.read_unread, View.ld_unit_zero (S := S1x1x2560) hz3, View.ld_unit_zero (S := S1x2560) hz2, View.ld_unit_zero (S := S2560x128) hz2, View.ld_unit_zero (S := S1x256x128) hz3, View.ld_unit_zero (S := S1x256x1) hz3, View.ld_unit_zero (S := S128x2560) hz2]

/-- The last point leaves scratch 0 as it was. -/
theorem sout0_C_0_eq (c : Dev nD) (i : grid0.Coords) (arg1 : Memref sig .tc .vmem S1x1x2560 .i32) (harg1 : arg1.IsWhole) (arg2 : Memref sig .tc .vmem S1x1x2560 .bf16) (harg2 : arg2.IsWhole) (arg3 : Memref sig .tc .vmem S1x2560 .f32) (harg3 : arg3.IsWhole) (arg4 : Memref sig .tc .vmem S2560x128 .fp8e4m3) (harg4 : arg4.IsWhole) (arg5 : Memref sig .tc .vmem S1x256x128 .fp8e4m3) (harg5 : arg5.IsWhole) (arg6 : Memref sig .tc .vmem S1x256x1 .f32) (harg6 : arg6.IsWhole) (arg7 : Memref sig .tc .vmem S2560x128 .bf16) (harg7 : arg7.IsWhole) (arg8 : Memref sig .tc .vmem S1x256x128 .bf16) (harg8 : arg8.IsWhole) (arg9 : Memref sig .tc .vmem S2560x128 .bf16) (harg9 : arg9.IsWhole) (arg10 : Memref sig .tc .vmem S128x2560 .f32) (harg10 : arg10.IsWhole) (hc0 : ¬cond0_0 i) (hc1 : cond0_1 i)
    (x0 : Vec F S1x1x2560 .i32) (x1 : Vec F S1x1x2560 .bf16) (x2 : Vec F S1x2560 .f32) (x3 : Vec F S2560x128 .fp8e4m3) (x4 : Vec F S1x256x128 .fp8e4m3) (x5 : Vec F S1x256x1 .f32) (xs0 : Vec F S2560x128 .bf16) (xs1 : Vec F S128x2560 .f32) :
    sout0_C_0 c i arg1 harg1 arg2 harg2 arg3 harg3 arg4 harg4 arg5 harg5 arg6 harg6 arg7 harg7 arg8 harg8 arg9 harg9 arg10 harg10 hc0 hc1 x0 x1 x2 x3 x4 x5 xs0 xs1 = xs0 := rfl

/-- The last point writes the transpose of scratch 1 after its own addition. -/
theorem out0_C_6_eq (c : Dev nD) (i : grid0.Coords) (arg1 : Memref sig .tc .vmem S1x1x2560 .i32) (harg1 : arg1.IsWhole) (arg2 : Memref sig .tc .vmem S1x1x2560 .bf16) (harg2 : arg2.IsWhole) (arg3 : Memref sig .tc .vmem S1x2560 .f32) (harg3 : arg3.IsWhole) (arg4 : Memref sig .tc .vmem S2560x128 .fp8e4m3) (harg4 : arg4.IsWhole) (arg5 : Memref sig .tc .vmem S1x256x128 .fp8e4m3) (harg5 : arg5.IsWhole) (arg6 : Memref sig .tc .vmem S1x256x1 .f32) (harg6 : arg6.IsWhole) (arg7 : Memref sig .tc .vmem S2560x128 .bf16) (harg7 : arg7.IsWhole) (arg8 : Memref sig .tc .vmem S1x256x128 .bf16) (harg8 : arg8.IsWhole) (arg9 : Memref sig .tc .vmem S2560x128 .bf16) (harg9 : arg9.IsWhole) (arg10 : Memref sig .tc .vmem S128x2560 .f32) (harg10 : arg10.IsWhole) (hc0 : ¬cond0_0 i) (hc1 : cond0_1 i)
    (x0 : Vec F S1x1x2560 .i32) (x1 : Vec F S1x1x2560 .bf16) (x2 : Vec F S1x2560 .f32) (x3 : Vec F S2560x128 .fp8e4m3) (x4 : Vec F S1x256x128 .fp8e4m3) (x5 : Vec F S1x256x1 .f32) (xs0 : Vec F S2560x128 .bf16) (xs1 : Vec F S128x2560 .f32) :
    out0_C_6 c i arg1 harg1 arg2 harg2 arg3 harg3 arg4 harg4 arg5 harg5 arg6 harg6 arg7 harg7 arg8 harg8 arg9 harg9 arg10 harg10 hc0 hc1 x0 x1 x2 x3 x4 x5 xs0 xs1 = k0_pay2 (k0_pay1 (k0_pay8 x0 x1) (k0_pay9 x4) x5 xs1) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  first
  | rw [View.canon_unit_zero (S := S2560x128) hz2]
  | rw [View.canon_cons_unit_zero (S := S2560x128) hz2]
  try rw [View.readCov_unit_zero (S := S2560x128) _ hz2]
  try rw [View.readCov_unit_zero (S := S128x2560) _ hz2]
  simp only [View.readAt_eq_ld, harg1.read_unread, harg2.read_unread, harg3.read_unread, harg4.read_unread, harg5.read_unread, harg6.read_unread, harg9.read_unread, harg10.read_unread, View.ld_unit_zero (S := S1x1x2560) hz3, View.ld_unit_zero (S := S1x2560) hz2, View.ld_unit_zero (S := S2560x128) hz2, View.ld_unit_zero (S := S1x256x128) hz3, View.ld_unit_zero (S := S1x256x1) hz3, View.ld_unit_zero (S := S128x2560) hz2]

end Cert.KernelIdeal.Value
-- ==== Proof.KernelPay.lean ====
/-
  ONE BLOCK OVER THE EXTENDED REALS (hand-written, untrusted). The body's payload functions, read at one index of the
  block: the one-hot matrices are an `if` on the matched token number, the products are sums.
-/
module

public import proofs.«01_k».proof.Proof.Gen.KernelIdeal.Skeleton
public import Idealize.ShloMosaic.Lib.Pointwise
public import Idealize.ShloMosaic.Lib.ValueIdx

@[expose] public section

set_option maxRecDepth 16384

noncomputable section

namespace Cert.KernelIdeal.Value

open Idealize.ShloMosaic
open scoped BigOperators
open Cert.KernelIdeal Cert.KernelIdeal.Gen

/-- The one-hot entry: `x` in the row of the matched token, zero elsewhere. -/
def hot (k : BitVec 32) (s : Fin 256) (x : EReal) : EReal := if k = BitVec.ofNat 32 s.val then x else 0

/-- The body's select against the row number is that entry. -/
theorem select_hot (k : BitVec 32) (s : Fin 256) (x : EReal) :
    Scalar.select (IntOp.cmpi .eq (BitVec.ofNat 32 s.val) k) x 0 = hot k s x := by
  unfold hot Scalar.select IntOp.cmpi
  by_cases h : k = BitVec.ofNat 32 s.val
  · simp [h]
  · rw [if_neg h, if_neg]
    show ¬BitVec.ofBool (BitVec.ofNat 32 s.val == k) = 1#1
    rw [beq_eq_false_iff_ne.mpr (Ne.symm h)]; decide

/-- The scores' one-hot matrix, entry by entry. -/
theorem pay8_apply (v3 : Vec Ideal S1x1x2560 .i32) (v5 : Vec Ideal S1x1x2560 .bf16) (s : Fin 256) (r : Fin 2560) :
    k0_pay8 v3 v5 (ix2 s r) = hot (v3 (ix3 0 0 r)) s (v5 (ix3 0 0 r)) := by
  pointwise [k0_pay8, k0_pay6, k0_pay5]
  exact select_hot _ _ _

/-- The widened document codes of the block. -/
theorem pay9_apply (v30 : Vec Ideal S1x256x128 .fp8e4m3) (s : Fin 256) (w : Fin 128) :
    k0_pay9 v30 (ix2 s w) = v30 (ix3 0 s w) := by
  pointwise [k0_pay9]

/-- The document gradient's block: at token `s` the sum over the query rows matched to it. -/
theorem pay7_apply (v3 : Vec Ideal S1x1x2560 .i32) (v5 : Vec Ideal S1x1x2560 .bf16) (v11 : Vec Ideal S1x2560 .f32) (v19 : Vec Ideal S2560x128 .bf16)
    (s : Fin 256) (w : Fin 128) :
    k0_pay7 v3 v5 v11 v19 (ix3 0 s w) = ∑ r : Fin 2560, hot (v3 (ix3 0 0 r)) s (v5 (ix3 0 0 r) * v11 (ix2 0 r) * v19 (ix2 r w)) := by
  pointwise [k0_pay7, k0_pay6, k0_pay5]
  exact Finset.sum_congr rfl fun r _ => select_hot _ _ _

/-- The accumulator after the point: what it held plus the product of the scaled document codes with the one-hot scores. -/
theorem pay1_apply (v29 : Vec Ideal S256x2560 .bf16) (v32 : Vec Ideal S256x128 .bf16) (v33 : Vec Ideal S1x256x1 .f32) (v38 : Vec Ideal S128x2560 .f32)
    (w : Fin 128) (r : Fin 2560) :
    k0_pay1 v29 v32 v33 v38 (ix2 w r) = v38 (ix2 w r) + ∑ s : Fin 256, v32 (ix2 s w) * v33 (ix3 0 s 0) * v29 (ix2 s r) := by
  pointwise [k0_pay1]

/-- The transposed accumulator. -/
theorem pay2_apply (v47 : Vec Ideal S128x2560 .f32) (r : Fin 2560) (w : Fin 128) : k0_pay2 v47 (ix2 r w) = v47 (ix2 w r) := by
  pointwise [k0_pay2]

/-- The widened query codes. -/
theorem pay3_apply (v : Vec Ideal S2560x128 .fp8e4m3) (r : Fin 2560) (w : Fin 128) : k0_pay3 v (ix2 r w) = v (ix2 r w) := by
  pointwise [k0_pay3]

/-- The zeros the accumulator starts from. -/
theorem pay4_apply (w : Fin 128) (r : Fin 2560) : k0_pay4 (F := Ideal) (ix2 w r) = 0 := by
  pointwise [k0_pay4]

end Cert.KernelIdeal.Value
-- ==== Proof.KernelRead.lean ====
/-
  WHAT A GRID POINT READS (hand-written, untrusted). Each input block, read at an index, is an entry of an argument: the
  host lines before the launch only transpose, broadcast and reshape. A query row `r` of the kernel is query `r / 32`,
  token `r % 32`; grid point `t` is document `t`.
-/
module

public import proofs.«01_k».proof.Proof.Gen.KernelIdeal.Frame
public import Idealize.ShloMosaic.Lib.Pipeline.Value
public import Idealize.ShloMosaic.Lib.StableHlo.RunRead
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The query of a query row. -/
def qOf (r : Fin 2560) : Fin 80 := ⟨r.val / 32, by have := r.isLt; omega⟩
/-- The token, within its query, of a query row. -/
def iOf (r : Fin 2560) : Fin 32 := ⟨r.val % 32, by omega⟩

/-- The document of a grid point. -/
def dOf (t : Fin cfg0.N) : Fin 400 := ⟨t.val, lt_of_lt_of_eq t.isLt (show cfg0.N = 400 from N_0)⟩

/-! ## The host lines before the launch -/

/-- The host array of matched token numbers: transposed to one row per document. -/
theorem V_v1 (c : Dev nD) : V m c main_v1 = shapeCast S400x1x2560 (transpose S400x80x32 [1, 0, 2] (m ((c : Thread nD τ).loc main_arg4)) transposes_S80x400x32_S400x80x32_1_0_2) shapeCasts_S400x80x32_S400x1x2560 := by
  show StableHlo.after hostOps0 (fun b => m (c, b)) (Proc.devRef .tc main_v1) = _
  after_reads_simp
  rfl

/-- The host array of scores: transposed, each repeated for the 32 tokens of its query. -/
theorem V_v5 (c : Dev nD) : V m c main_v5 = shapeCast S400x1x2560 (shapeCast S400x2560 (broadcastInDim S400x80x32 ![0, 1] bcast_S400x80_S400x80x32_0_1 (transpose S400x80 [1, 0] (m ((c : Thread nD τ).loc main_arg5)) transposes_S80x400_S400x80_1_0)) shapeCasts_S400x80x32_S400x2560) shapeCasts_S400x2560_S400x1x2560 := by
  show StableHlo.after hostOps0 (fun b => m (c, b)) (Proc.devRef .tc main_v5) = _
  after_reads_simp
  rfl

/-- The host array of query scales: one row. -/
theorem V_v6 (c : Dev nD) : V m c main_v6 = shapeCast S1x2560 (m ((c : Thread nD τ).loc main_arg1)) shapeCasts_S80x32_S1x2560 := by
  show StableHlo.after hostOps0 (fun b => m (c, b)) (Proc.devRef .tc main_v6) = _
  after_reads_simp
  rfl

/-- The host array of query codes: one row per query token. -/
theorem V_v7 (c : Dev nD) : V m c main_v7 = shapeCast S2560x128 (m ((c : Thread nD τ).loc main_arg0)) shapeCasts_S80x32x128_S2560x128 := by
  show StableHlo.after hostOps0 (fun b => m (c, b)) (Proc.devRef .tc main_v7) = _
  after_reads_simp
  rfl

/-- The host array of document scales: one column per document. -/
theorem V_v8 (c : Dev nD) : V m c main_v8 = shapeCast S400x256x1 (m ((c : Thread nD τ).loc main_arg3)) shapeCasts_S400x256_S400x256x1 := by
  show StableHlo.after hostOps0 (fun b => m (c, b)) (Proc.devRef .tc main_v8) = _
  after_reads_simp
  rfl

/-- The matched token numbers, by document and query row. -/
theorem V_v1_apply (c : Dev nD) (d : Fin 400) (r : Fin 2560) :
    (V m c main_v1 : Vec F S400x1x2560 .i32) (ix3 d 0 r) = (m ((c : Thread nD τ).loc main_arg4) : Vec F S80x400x32 .i32) (ix3 (qOf r) d (iOf r)) := by
  rw [V_v1, shapeCast_apply _ _ _ (ix3 d (qOf r) (iOf r)) (by
    rw [Shape.rowMajor_val_three, Shape.rowMajor_val_three]
    show (d.val * 80 + r.val / 32) * 32 + r.val % 32 = (d.val * 1 + 0) * 2560 + r.val
    omega)]
  pointwise

/-- The scores, by document and query row. -/
theorem V_v5_apply (c : Dev nD) (d : Fin 400) (r : Fin 2560) :
    (V m c main_v5 : Vec F S400x1x2560 .bf16) (ix3 d 0 r) = (m ((c : Thread nD τ).loc main_arg5) : Vec F S80x400 .bf16) (ix2 (qOf r) d) := by
  rw [V_v5, shapeCast_apply _ _ _ (ix2 d r) (by
    rw [Shape.rowMajor_val_two, Shape.rowMajor_val_three]
    show d.val * 2560 + r.val = (d.val * 1 + 0) * 2560 + r.val
    omega), shapeCast_apply _ _ _ (ix3 d (qOf r) (iOf r)) (by
    rw [Shape.rowMajor_val_three, Shape.rowMajor_val_two]
    show (d.val * 80 + r.val / 32) * 32 + r.val % 32 = d.val * 2560 + r.val
    omega)]
  pointwise

/-- The query scales, by query row. -/
theorem V_v6_apply (c : Dev nD) (r : Fin 2560) :
    (V m c main_v6 : Vec F S1x2560 .f32) (ix2 0 r) = (m ((c : Thread nD τ).loc main_arg1) : Vec F S80x32 .f32) (ix2 (qOf r) (iOf r)) := by
  rw [V_v6, shapeCast_apply _ _ _ (ix2 (qOf r) (iOf r)) (by
    rw [Shape.rowMajor_val_two, Shape.rowMajor_val_two]
    show r.val / 32 * 32 + r.val % 32 = 0 * 2560 + r.val
    omega)]

/-- The query codes, by query row. -/
theorem V_v7_apply (c : Dev nD) (r : Fin 2560) (w : Fin 128) :
    (V m c main_v7 : Vec F S2560x128 .fp8e4m3) (ix2 r w) = (m ((c : Thread nD τ).loc main_arg0) : Vec F S80x32x128 .fp8e4m3) (ix3 (qOf r) (iOf r) w) := by
  rw [V_v7, shapeCast_apply _ _ _ (ix3 (qOf r) (iOf r) w) (by
    rw [Shape.rowMajor_val_three, Shape.rowMajor_val_two]
    show (r.val / 32 * 32 + r.val % 32) * 128 + w.val = r.val * 128 + w.val
    omega)]

/-- The document scales. -/
theorem V_v8_apply (c : Dev nD) (d : Fin 400) (s : Fin 256) :
    (V m c main_v8 : Vec F S400x256x1 .f32) (ix3 d s 0) = (m ((c : Thread nD τ).loc main_arg3) : Vec F S400x256 .f32) (ix2 d s) := by
  rw [V_v8, shapeCast_apply _ _ _ (ix2 d s) (by
    rw [Shape.rowMajor_val_two, Shape.rowMajor_val_three]
    show d.val * 256 + s.val = (d.val * 256 + s.val) * 1 + 0
    omega)]

/-! ## The blocks -/

/-- Step t reads the matched tokens of document t. -/
theorem idx_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
/-- Step t reads the scores of document t. -/
theorem idx_1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
/-- Every step reads all the query scales. -/
theorem idx_2 : ∀ t : Fin cfg0.N, win0_2.index t 0 = 0 ∧ win0_2.index t 1 = 0 :=
  (by decide +kernel : ∀ t : Fin grid0.N, win0_2.index t 0 = 0 ∧ win0_2.index t 1 = 0)
/-- Every step reads all the query codes. -/
theorem idx_3 : ∀ t : Fin cfg0.N, win0_3.index t 0 = 0 ∧ win0_3.index t 1 = 0 :=
  (by decide +kernel : ∀ t : Fin grid0.N, win0_3.index t 0 = 0 ∧ win0_3.index t 1 = 0)
/-- Step t reads the codes of document t. -/
theorem idx_4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)
/-- Step t reads the scales of document t. -/
theorem idx_5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

/-- Point `t` reads document `t`'s matched token numbers … -/
theorem iblk_0 (c : Dev nD) (t : Fin cfg0.N) (r : Fin 2560) :
    (iblk m c 0 t : Vec F S1x1x2560 .i32) (ix3 0 0 r) = (m ((c : Thread nD τ).loc main_arg4) : Vec F S80x400x32 .i32) (ix3 (qOf r) (dOf t) (iOf r)) := by
  refine Eq.trans ?_ (V_v1_apply m c (dOf t) r)
  unfold iblk
  rw [View.read_apply]
  show V m c main_v1 _ = V m c main_v1 _
  congr 1; funext a; apply Fin.ext
  have hi := idx_0 t
  match a with
  | ⟨0, _⟩ => show win0_0.index t 0 * 1 + 1 * 0 = t.val; rw [hi.1]; omega
  | ⟨1, _⟩ => show win0_0.index t 1 * 1 + 1 * 0 = 0; rw [hi.2.1]
  | ⟨2, _⟩ => show win0_0.index t 2 * 2560 + 1 * r.val = r.val; rw [hi.2.2]; omega

/-- … its scores … -/
theorem iblk_1 (c : Dev nD) (t : Fin cfg0.N) (r : Fin 2560) :
    (iblk m c 1 t : Vec F S1x1x2560 .bf16) (ix3 0 0 r) = (m ((c : Thread nD τ).loc main_arg5) : Vec F S80x400 .bf16) (ix2 (qOf r) (dOf t)) := by
  refine Eq.trans ?_ (V_v5_apply m c (dOf t) r)
  unfold iblk
  rw [View.read_apply]
  show V m c main_v5 _ = V m c main_v5 _
  congr 1; funext a; apply Fin.ext
  have hi := idx_1 t
  match a with
  | ⟨0, _⟩ => show win0_1.index t 0 * 1 + 1 * 0 = t.val; rw [hi.1]; omega
  | ⟨1, _⟩ => show win0_1.index t 1 * 1 + 1 * 0 = 0; rw [hi.2.1]
  | ⟨2, _⟩ => show win0_1.index t 2 * 2560 + 1 * r.val = r.val; rw [hi.2.2]; omega

/-- … all query scales … -/
theorem iblk_2 (c : Dev nD) (t : Fin cfg0.N) (r : Fin 2560) :
    (iblk m c 2 t : Vec F S1x2560 .f32) (ix2 0 r) = (m ((c : Thread nD τ).loc main_arg1) : Vec F S80x32 .f32) (ix2 (qOf r) (iOf r)) := by
  refine Eq.trans ?_ (V_v6_apply m c r)
  unfold iblk
  rw [View.read_apply]
  show V m c main_v6 _ = V m c main_v6 _
  congr 1; funext a; apply Fin.ext
  have hi := idx_2 t
  match a with
  | ⟨0, _⟩ => show win0_2.index t 0 * 1 + 1 * 0 = 0; rw [hi.1]
  | ⟨1, _⟩ => show win0_2.index t 1 * 2560 + 1 * r.val = r.val; rw [hi.2]; omega

/-- … all query codes … -/
theorem iblk_3 (c : Dev nD) (t : Fin cfg0.N) (r : Fin 2560) (w : Fin 128) :
    (iblk m c 3 t : Vec F S2560x128 .fp8e4m3) (ix2 r w) = (m ((c : Thread nD τ).loc main_arg0) : Vec F S80x32x128 .fp8e4m3) (ix3 (qOf r) (iOf r) w) := by
  refine Eq.trans ?_ (V_v7_apply m c r w)
  unfold iblk
  rw [View.read_apply]
  show V m c main_v7 _ = V m c main_v7 _
  congr 1; funext a; apply Fin.ext
  have hi := idx_3 t
  match a with
  | ⟨0, _⟩ => show win0_3.index t 0 * 2560 + 1 * r.val = r.val; rw [hi.1]; omega
  | ⟨1, _⟩ => show win0_3.index t 1 * 128 + 1 * w.val = w.val; rw [hi.2]; omega

/-- … document `t`'s codes … -/
theorem iblk_4 (c : Dev nD) (t : Fin cfg0.N) (s : Fin 256) (w : Fin 128) :
    (iblk m c 4 t : Vec F S1x256x128 .fp8e4m3) (ix3 0 s w) = (m ((c : Thread nD τ).loc main_arg2) : Vec F S400x256x128 .fp8e4m3) (ix3 (dOf t) s w) := by
  rw [← V_main_arg2 m c]
  unfold iblk
  rw [View.read_apply]
  show V m c main_arg2 _ = V m c main_arg2 _
  congr 1; funext a; apply Fin.ext
  have hi := idx_4 t
  match a with
  | ⟨0, _⟩ => show win0_4.index t 0 * 1 + 1 * 0 = t.val; rw [hi.1]; omega
  | ⟨1, _⟩ => show win0_4.index t 1 * 256 + 1 * s.val = s.val; rw [hi.2.1]; omega
  | ⟨2, _⟩ => show win0_4.index t 2 * 128 + 1 * w.val = w.val; rw [hi.2.2]; omega

/-- … and its scales. -/
theorem iblk_5 (c : Dev nD) (t : Fin cfg0.N) (s : Fin 256) :
    (iblk m c 5 t : Vec F S1x256x1 .f32) (ix3 0 s 0) = (m ((c : Thread nD τ).loc main_arg3) : Vec F S400x256 .f32) (ix2 (dOf t) s) := by
  refine Eq.trans ?_ (V_v8_apply m c (dOf t) s)
  unfold iblk
  rw [View.read_apply]
  show V m c main_v8 _ = V m c main_v8 _
  congr 1; funext a; apply Fin.ext
  have hi := idx_5 t
  match a with
  | ⟨0, _⟩ => show win0_5.index t 0 * 1 + 1 * 0 = t.val; rw [hi.1]; omega
  | ⟨1, _⟩ => show win0_5.index t 1 * 256 + 1 * s.val = s.val; rw [hi.2.1]; omega
  | ⟨2, _⟩ => show win0_5.index t 2 * 1 + 1 * 0 = 0; rw [hi.2.2]

end Cert.KernelIdeal.Value
-- ==== Proof.KernelFold.lean ====
/-
  WHAT THE KERNEL'S ARRAYS HOLD (hand-written, untrusted). Over the extended reals, by induction on the grid point: scratch 0
  holds the query codes, scratch 1 the running sum over the documents seen so far. So the document gradient is, block by
  block, a one-hot sum over the query rows, and the query gradient a sum over documents and tokens.
-/
module

public import proofs.«01_k».proof.Proof.KernelBlock
public import proofs.«01_k».proof.Proof.KernelPay
public import proofs.«01_k».proof.Proof.KernelRead

@[expose] public section

set_option maxRecDepth 16384

noncomputable section

namespace Cert.KernelIdeal.Value

open Idealize.ShloMosaic Idealize.ShloMosaic.TcCoe Idealize.SL.Sem
open Cert.KernelIdeal Cert.KernelIdeal.Gen
open scoped BigOperators

variable (m : (ℓ : Loc nD τ sig) → Buf (Elt Ideal) ℓ)

/-- What document `d` adds to the query gradient at query row `r`, column `w`: the one-hot sum over its tokens. -/
def dqPart (a2 : Vec Ideal S400x256x128 .fp8e4m3) (a3 : Vec Ideal S400x256 .f32) (a4 : Vec Ideal S80x400x32 .i32) (a5 : Vec Ideal S80x400 .bf16)
    (d : Fin 400) (r : Fin 2560) (w : Fin 128) : EReal :=
  ∑ s : Fin 256, a2 (ix3 d s w) * a3 (ix2 d s) * hot (a4 (ix3 (qOf r) d (iOf r))) s (a5 (ix2 (qOf r) d))

/-- The document gradient at document `d`, token `s`, column `w`: the one-hot sum over the query rows. -/
def ddSum (a0 : Vec Ideal S80x32x128 .fp8e4m3) (a1 : Vec Ideal S80x32 .f32) (a4 : Vec Ideal S80x400x32 .i32) (a5 : Vec Ideal S80x400 .bf16)
    (d : Fin 400) (s : Fin 256) (w : Fin 128) : EReal :=
  ∑ r : Fin 2560, hot (a4 (ix3 (qOf r) d (iOf r))) s (a5 (ix2 (qOf r) d) * a1 (ix2 (qOf r) (iOf r)) * a0 (ix3 (qOf r) (iOf r) w))

/-- `dqPart` of the arguments as launched. -/
abbrev part (c : Dev nD) (d : Fin 400) (r : Fin 2560) (w : Fin 128) : EReal :=
  dqPart (m ((c : Thread nD τ).loc main_arg2)) (m ((c : Thread nD τ).loc main_arg3)) (m ((c : Thread nD τ).loc main_arg4)) (m ((c : Thread nD τ).loc main_arg5)) d r w

/-- Scratch 0 holds the query codes after every point. -/
theorem scratch0 (c : Dev nD) (r : Fin 2560) (w : Fin 128) : ∀ (n : ℕ) (hn : n < cfg0.N),
    (outsAt0 m c n hn).2.2.1 (ix2 r w) = (m ((c : Thread nD τ).loc main_arg0) : Vec Ideal S80x32x128 .fp8e4m3) (ix3 (qOf r) (iOf r) w)
  | 0, hn => by
    refine (congrArg (fun x => x.2.2.1 (ix2 r w)) (outsAt0_A m c ⟨0, hn⟩ (by show 0 % 400 = 0; rfl) (by show ¬0 % 400 = 399; decide))).trans ?_
    dsimp only
    rw [sout0_A_0_eq, pay3_apply, iblk_3]
  | n + 1, hn => by
    have hN : n + 1 < 400 := lt_of_lt_of_eq hn (show cfg0.N = 400 from N_0)
    have ih := scratch0 c r w n (Nat.lt_of_succ_lt hn)
    by_cases h1 : (n + 1) % 400 = 399
    · refine (congrArg (fun x => x.2.2.1 (ix2 r w)) (outsAt0_C m c ⟨n + 1, hn⟩ (by dsimp only; omega) h1)).trans ?_
      dsimp only
      rw [sout0_C_0_eq]
      exact ih
    · refine (congrArg (fun x => x.2.2.1 (ix2 r w)) (outsAt0_B m c ⟨n + 1, hn⟩ (by dsimp only; omega) h1)).trans ?_
      dsimp only
      rw [sout0_B_0_eq]
      exact ih

/-- The point's product, read at an index. -/
theorem product (c : Dev nD) (t : Fin cfg0.N) (acc : Vec Ideal S128x2560 .f32) (w : Fin 128) (r : Fin 2560) :
    k0_pay1 (k0_pay8 (iblk m c 0 t) (iblk m c 1 t)) (k0_pay9 (iblk m c 4 t)) (iblk m c 5 t) acc (ix2 w r) = acc (ix2 w r) + part m c (dOf t) r w := by
  rw [pay1_apply]
  refine congrArg (acc (ix2 w r) + ·) (Finset.sum_congr rfl fun s _ => ?_)
  rw [pay9_apply, pay8_apply, iblk_0, iblk_1, iblk_4, iblk_5]

/-- `part` at a natural number of a document, zero past the last one. -/
def partN (c : Dev nD) (r : Fin 2560) (w : Fin 128) (n : ℕ) : EReal := if h : n < 400 then part m c ⟨n, h⟩ r w else 0

/-- The contribution of a grid step, with the step as its document. -/
theorem partN_of (c : Dev nD) (r : Fin 2560) (w : Fin 128) (t : Fin cfg0.N) : part m c (dOf t) r w = partN m c r w t.val := by
  unfold partN
  rw [dif_pos (show t.val < 400 from (dOf t).isLt)]
  rfl

/-- Scratch 1 holds the running sum. -/
theorem scratch1 (c : Dev nD) (r : Fin 2560) (w : Fin 128) : ∀ (n : ℕ) (hn : n < cfg0.N),
    (outsAt0 m c n hn).2.2.2 (ix2 w r) = ∑ k ∈ Finset.range (n + 1), partN m c r w k
  | 0, hn => by
    refine (congrArg (fun x => x.2.2.2 (ix2 w r)) (outsAt0_A m c ⟨0, hn⟩ (by show 0 % 400 = 0; rfl) (by show ¬0 % 400 = 399; decide))).trans ?_
    dsimp only
    rw [sout0_A_1_eq, product, pay4_apply, partN_of, zero_add, Finset.sum_range_one]
  | n + 1, hn => by
    have hN : n + 1 < 400 := lt_of_lt_of_eq hn (show cfg0.N = 400 from N_0)
    have ih := scratch1 c r w n (Nat.lt_of_succ_lt hn)
    rw [Finset.sum_range_succ, ← ih]
    by_cases h1 : (n + 1) % 400 = 399
    · refine (congrArg (fun x => x.2.2.2 (ix2 w r)) (outsAt0_C m c ⟨n + 1, hn⟩ (by dsimp only; omega) h1)).trans ?_
      dsimp only
      rw [sout0_C_1_eq, product, partN_of]
      rfl
    · refine (congrArg (fun x => x.2.2.2 (ix2 w r)) (outsAt0_B m c ⟨n + 1, hn⟩ (by dsimp only; omega) h1)).trans ?_
      dsimp only
      rw [sout0_B_1_eq, product, partN_of]
      rfl

/-- The one-hot product of a point, read at an index, whatever array of query codes it is taken with. -/
theorem onehot (c : Dev nD) (t : Fin cfg0.N) (qb : Vec Ideal S2560x128 .bf16)
    (hq : ∀ r w, qb (ix2 r w) = (m ((c : Thread nD τ).loc main_arg0) : Vec Ideal S80x32x128 .fp8e4m3) (ix3 (qOf r) (iOf r) w)) (s : Fin 256) (w : Fin 128) :
    k0_pay7 (iblk m c 0 t) (iblk m c 1 t) (iblk m c 2 t) qb (ix3 0 s w)
      = ddSum (m ((c : Thread nD τ).loc main_arg0)) (m ((c : Thread nD τ).loc main_arg1)) (m ((c : Thread nD τ).loc main_arg4)) (m ((c : Thread nD τ).loc main_arg5)) (dOf t) s w := by
  rw [pay7_apply]
  refine Finset.sum_congr rfl fun r _ => ?_
  rw [hq, iblk_0, iblk_1, iblk_2]

/-- The document block after point `t`. -/
theorem block7 (c : Dev nD) (t : Fin cfg0.N) (s : Fin 256) (w : Fin 128) :
    (outsAt0 m c t.val t.isLt).2.1 (ix3 0 s w)
      = ddSum (m ((c : Thread nD τ).loc main_arg0)) (m ((c : Thread nD τ).loc main_arg1)) (m ((c : Thread nD τ).loc main_arg4)) (m ((c : Thread nD τ).loc main_arg5)) (dOf t) s w := by
  have hN : t.val < 400 := lt_of_lt_of_eq t.isLt (show cfg0.N = 400 from N_0)
  by_cases h0 : t.val % 400 = 0
  · have h1 : ¬t.val % 400 = 399 := by omega
    refine (congrArg (fun x => x.2.1 (ix3 0 s w)) (outsAt0_A m c t h0 h1)).trans ?_
    dsimp only
    rw [out0_A_7_eq]
    exact onehot m c t _ (fun r w => by rw [pay3_apply, iblk_3]) s w
  · by_cases h1 : t.val % 400 = 399
    · refine (congrArg (fun x => x.2.1 (ix3 0 s w)) (outsAt0_C m c t h0 h1)).trans ?_
      dsimp only
      rw [out0_C_7_eq]
      exact onehot m c t _ (fun r w => scratch0 m c r w _ _) s w
    · refine (congrArg (fun x => x.2.1 (ix3 0 s w)) (outsAt0_B m c t h0 h1)).trans ?_
      dsimp only
      rw [out0_B_7_eq]
      exact onehot m c t _ (fun r w => scratch0 m c r w _ _) s w

/-- The query block after the last point: the running sum, transposed. -/
theorem block6 (c : Dev nD) (t : Fin cfg0.N) (h1 : t.val % 400 = 399) (r : Fin 2560) (w : Fin 128) :
    (outsAt0 m c t.val t.isLt).1 (ix2 r w) = (outsAt0 m c t.val t.isLt).2.2.2 (ix2 w r) := by
  have h0 : ¬t.val % 400 = 0 := by omega
  refine (congrArg (fun x => x.1 (ix2 r w)) (outsAt0_C m c t h0 h1)).trans (Eq.trans ?_ (congrArg (fun x => x.2.2.2 (ix2 w r)) (outsAt0_C m c t h0 h1)).symm)
  dsimp only
  rw [out0_C_6_eq, sout0_C_1_eq, pay2_apply]

/-- The query block after the last point, as the sum over the documents. -/
theorem block6_sum (c : Dev nD) (n : ℕ) (hn : n < cfg0.N) (h1 : n % 400 = 399) (r : Fin 2560) (w : Fin 128) :
    (outsAt0 m c n hn).1 (ix2 r w) = ∑ d : Fin 400, part m c d r w := by
  have hN : n < 400 := lt_of_lt_of_eq hn (show cfg0.N = 400 from N_0)
  refine (block6 m c ⟨n, hn⟩ h1 r w).trans ((scratch1 m c r w n hn).trans ?_)
  have e : n + 1 = 400 := by omega
  rw [e, Finset.sum_range]
  refine Finset.sum_congr rfl fun d _ => ?_
  unfold partN
  rw [dif_pos d.isLt]

/-- THE QUERY GRADIENT: at every index the sum over all documents. -/
theorem G6_apply (c : Dev nD) (r : Fin 2560) (w : Fin 128) :
    (G6 m c : Vec Ideal S2560x128 .bf16) (ix2 r w) = ∑ d : Fin 400, part m c d r w := by
  have hr := r.isLt
  have hw := w.isLt
  have hp : pt6Of (ix2 r w) = 399 := by
    show 400 * (1 * (r.val / 2560 - 0) + 1 * (w.val / 128 - 0)) + 399 = 399
    omega
  have hl : loc6Of (ix2 r w) = ix2 r w := by
    funext a; apply Fin.ext
    match a with
    | ⟨0, _⟩ => show r.val % 2560 = r.val; omega
    | ⟨1, _⟩ => show w.val % 128 = w.val; omega
  have hN : pt6Of (ix2 r w) < cfg0.N := by rw [hp]; exact lt_of_lt_of_eq (by decide) N_0.symm
  unfold G6
  rw [dif_pos hN, ← outsAt0_sweep m c _ hN, hl]
  exact block6_sum m c _ hN (by rw [hp]) r w

/-- THE DOCUMENT GRADIENT: at every index the one-hot sum over the query rows. -/
theorem G7_apply (c : Dev nD) (d : Fin 400) (s : Fin 256) (w : Fin 128) :
    (G7 m c : Vec Ideal S400x256x128 .bf16) (ix3 d s w)
      = ddSum (m ((c : Thread nD τ).loc main_arg0)) (m ((c : Thread nD τ).loc main_arg1)) (m ((c : Thread nD τ).loc main_arg4)) (m ((c : Thread nD τ).loc main_arg5)) d s w := by
  have hd : d.val < cfg0.N := lt_of_lt_of_eq d.isLt N_0.symm
  have hs := s.isLt
  have hw := w.isLt
  have hp : pt7Of (ix3 d s w) = d.val := by
    show 1 * (d.val / 1 - 0) + 1 * (s.val / 256 - 0) + 1 * (w.val / 128 - 0) = d.val
    omega
  have hl : loc7Of (ix3 d s w) = ix3 0 s w := by
    funext a; apply Fin.ext
    match a with
    | ⟨0, _⟩ => show d.val % 1 = 0; omega
    | ⟨1, _⟩ => show s.val % 256 = s.val; omega
    | ⟨2, _⟩ => show w.val % 128 = w.val; omega
  unfold G7
  rw [dif_pos (hp ▸ hd), ← outsAt0_sweep m c _ (hp ▸ hd), hl]
  have key : ∀ (n : ℕ) (hn : n < cfg0.N), n = d.val → (outsAt0 m c n hn).2.1 (ix3 0 s w) = (outsAt0 m c d.val hd).2.1 (ix3 0 s w) := by
    rintro n hn rfl; rfl
  rw [key _ _ hp]
  exact block7 m c ⟨d.val, hd⟩ s w

end Cert.KernelIdeal.Value
-- ==== Proof.RefValue.lean ====
/-
  WHAT THE REFERENCE COMPUTES (hand-written, untrusted). Over the extended reals and with every matched token number in
  `0 … 255`, the reference's two results read at one index: the gathers read the matched token, so the query gradient is a sum
  over the documents; the scatter adds each contribution at its matched token, so the document gradient is a sum over the
  (query, query token) pairs matched to the token.
-/
module

public import proofs.«01_k».proof.Proof.RefRun
public import Idealize.ShloMosaic.Lib.Pointwise
public import Idealize.ShloMosaic.Lib.Routing.OpsPair

@[expose] public section

set_option maxRecDepth 16384

noncomputable section

namespace Cert.ReferenceIdeal.Value

open Idealize.ShloMosaic
open Cert.ReferenceIdeal Cert.ReferenceIdeal.Gen
open scoped BigOperators

/-! ## The pairs -/

/-- jnp's wrap of a negative index leaves a word that is not negative as it is. -/
theorem wrap_nonneg (k x : BitVec 32) (h : 0 ≤ k.toInt) : Scalar.select (IntOp.cmpi .slt k 0#32) x k = k := by
  unfold Scalar.select
  rw [if_neg]
  show ¬BitVec.ofBool (k.slt 0#32) = 1#1
  have : k.slt 0#32 = false := by
    rw [BitVec.slt, decide_eq_false_iff_not]
    simpa using h
  rw [this]; decide

/-- The value of the word of a document number. -/
theorem toInt_doc (d : Fin 400) : (BitVec.ofNat 32 d.val).toInt = (d.val : Int) := by
  have := d.isLt
  rw [BitVec.toInt_eq_toNat_of_lt] <;> rw [BitVec.toNat_ofNat, Nat.mod_eq_of_lt] <;> omega

variable (a4 : Vec Ideal S80x400x32 .i32)

/-- The first word of a pair is the document number. -/
theorem pairs_doc (q : Fin 80) (d : Fin 400) (i : Fin 32) : pairs a4 (ix4 q d i 0) = BitVec.ofNat 32 d.val := by
  unfold pairs docs toks
  pointwise
  exact wrap_nonneg _ _ (by rw [toInt_doc]; omega)

/-- The second word of a pair is the matched token number. -/
theorem pairs_tok (q : Fin 80) (d : Fin 400) (i : Fin 32) (h : 0 ≤ (a4 (ix3 q d i)).toInt) : pairs a4 (ix4 q d i 1) = a4 (ix3 q d i) := by
  unfold pairs docs toks
  pointwise
  exact wrap_nonneg _ _ h

/-! ## The gathers -/

/-- The gather of the document codes at a pair in range. -/
theorem gather_codes {α : Type} (x : S400x256x128.Idx → α) (idx : IVec S80x400x32x2 32) (q : Fin 80) (d : Fin 400) (i : Fin 32) (s : Fin 256) (w : Fin 128)
    (h0 : (idx (ix4 q d i 0)).toInt = (d.val : Int)) (h1 : (idx (ix4 q d i 1)).toInt = (s.val : Int)) :
    Host.gather gather_S400x256x128_S80x400x32x2_S80x400x32x128_3_01_n_n_01_3_11128 x idx (ix4 q d i w) = x (ix3 d s w) := by
  have hd := d.isLt
  have hs := s.isLt
  unfold Host.gather
  refine congrArg x (funext fun a => Fin.ext ?_)
  match a with
  | ⟨0, ha⟩ =>
    show GatherDims.start gather_S400x256x128_S80x400x32x2_S80x400x32x128_3_01_n_n_01_3_11128 (ix4 q d i w) idx (0 : Fin 3) + GatherDims.batchCoord gather_S400x256x128_S80x400x32x2_S80x400x32x128_3_01_n_n_01_3_11128 (ix4 q d i w) (0 : Fin 3) + GatherDims.offCoord gather_S400x256x128_S80x400x32x2_S80x400x32x128_3_01_n_n_01_3_11128 (ix4 q d i w) (0 : Fin 3) = d.val
    rw [GatherDims.batchCoord_eq_zero _ _ _ List.not_mem_nil, GatherDims.offCoord_eq_zero _ _ _ (by decide)]
    unfold GatherDims.start
    rw [dif_pos (by decide)]
    have hsi : ∀ hlt, GatherDims.siIdx gather_S400x256x128_S80x400x32x2_S80x400x32x128_3_01_n_n_01_3_11128 (ix4 q d i w) ⟨0, hlt⟩ = ix4 q d i 0 := fun hlt => by
      funext b; refine Fin.ext ?_
      match b with
      | ⟨0, _⟩ => rfl
      | ⟨1, _⟩ => rfl
      | ⟨2, _⟩ => rfl
      | ⟨3, _⟩ => rfl
    refine Eq.trans (b := min (idx (ix4 q d i 0)).toInt.toNat (400 - 1)) (congrArg (fun k => min (idx k).toInt.toNat (400 - 1)) (hsi _)) ?_
    rw [h0]; omega
  | ⟨1, ha⟩ =>
    show GatherDims.start gather_S400x256x128_S80x400x32x2_S80x400x32x128_3_01_n_n_01_3_11128 (ix4 q d i w) idx (1 : Fin 3) + GatherDims.batchCoord gather_S400x256x128_S80x400x32x2_S80x400x32x128_3_01_n_n_01_3_11128 (ix4 q d i w) (1 : Fin 3) + GatherDims.offCoord gather_S400x256x128_S80x400x32x2_S80x400x32x128_3_01_n_n_01_3_11128 (ix4 q d i w) (1 : Fin 3) = s.val
    rw [GatherDims.batchCoord_eq_zero _ _ _ List.not_mem_nil, GatherDims.offCoord_eq_zero _ _ _ (by decide)]
    unfold GatherDims.start
    rw [dif_pos (by decide)]
    have hsi : ∀ hlt, GatherDims.siIdx gather_S400x256x128_S80x400x32x2_S80x400x32x128_3_01_n_n_01_3_11128 (ix4 q d i w) ⟨1, hlt⟩ = ix4 q d i 1 := fun hlt => by
      funext b; refine Fin.ext ?_
      match b with
      | ⟨0, _⟩ => rfl
      | ⟨1, _⟩ => rfl
      | ⟨2, _⟩ => rfl
      | ⟨3, _⟩ => rfl
    refine Eq.trans (b := min (idx (ix4 q d i 1)).toInt.toNat (256 - 1)) (congrArg (fun k => min (idx k).toInt.toNat (256 - 1)) (hsi _)) ?_
    rw [h1]; omega
  | ⟨2, ha⟩ =>
    show GatherDims.start gather_S400x256x128_S80x400x32x2_S80x400x32x128_3_01_n_n_01_3_11128 (ix4 q d i w) idx (2 : Fin 3) + GatherDims.batchCoord gather_S400x256x128_S80x400x32x2_S80x400x32x128_3_01_n_n_01_3_11128 (ix4 q d i w) (2 : Fin 3) + GatherDims.offCoord gather_S400x256x128_S80x400x32x2_S80x400x32x128_3_01_n_n_01_3_11128 (ix4 q d i w) (2 : Fin 3) = w.val
    rw [GatherDims.batchCoord_eq_zero _ _ _ List.not_mem_nil]
    unfold GatherDims.start
    rw [dif_neg (by decide)]
    unfold GatherDims.offCoord
    rw [dif_pos (by decide)]
    simp only [Nat.zero_add]
    rfl

/-- The gather of the document scales at a pair in range. -/
theorem gather_scales {α : Type} (x : S400x256.Idx → α) (idx : IVec S80x400x32x2 32) (q : Fin 80) (d : Fin 400) (i : Fin 32) (s : Fin 256)
    (h0 : (idx (ix4 q d i 0)).toInt = (d.val : Int)) (h1 : (idx (ix4 q d i 1)).toInt = (s.val : Int)) :
    Host.gather gather_S400x256_S80x400x32x2_S80x400x32_n_01_n_n_01_3_11 x idx (ix3 q d i) = x (ix2 d s) := by
  have hd := d.isLt
  have hs := s.isLt
  unfold Host.gather
  refine congrArg x (funext fun a => Fin.ext ?_)
  match a with
  | ⟨0, ha⟩ =>
    show GatherDims.start gather_S400x256_S80x400x32x2_S80x400x32_n_01_n_n_01_3_11 (ix3 q d i) idx (0 : Fin 2) + GatherDims.batchCoord gather_S400x256_S80x400x32x2_S80x400x32_n_01_n_n_01_3_11 (ix3 q d i) (0 : Fin 2) + GatherDims.offCoord gather_S400x256_S80x400x32x2_S80x400x32_n_01_n_n_01_3_11 (ix3 q d i) (0 : Fin 2) = d.val
    rw [GatherDims.batchCoord_eq_zero _ _ _ List.not_mem_nil, GatherDims.offCoord_eq_zero _ _ _ (by decide)]
    unfold GatherDims.start
    rw [dif_pos (by decide)]
    have hsi : ∀ hlt, GatherDims.siIdx gather_S400x256_S80x400x32x2_S80x400x32_n_01_n_n_01_3_11 (ix3 q d i) ⟨0, hlt⟩ = ix4 q d i 0 := fun hlt => by
      funext b; refine Fin.ext ?_
      match b with
      | ⟨0, _⟩ => rfl
      | ⟨1, _⟩ => rfl
      | ⟨2, _⟩ => rfl
      | ⟨3, _⟩ => rfl
    refine Eq.trans (b := min (idx (ix4 q d i 0)).toInt.toNat (400 - 1)) (congrArg (fun k => min (idx k).toInt.toNat (400 - 1)) (hsi _)) ?_
    rw [h0]; omega
  | ⟨1, ha⟩ =>
    show GatherDims.start gather_S400x256_S80x400x32x2_S80x400x32_n_01_n_n_01_3_11 (ix3 q d i) idx (1 : Fin 2) + GatherDims.batchCoord gather_S400x256_S80x400x32x2_S80x400x32_n_01_n_n_01_3_11 (ix3 q d i) (1 : Fin 2) + GatherDims.offCoord gather_S400x256_S80x400x32x2_S80x400x32_n_01_n_n_01_3_11 (ix3 q d i) (1 : Fin 2) = s.val
    rw [GatherDims.batchCoord_eq_zero _ _ _ List.not_mem_nil, GatherDims.offCoord_eq_zero _ _ _ (by decide)]
    unfold GatherDims.start
    rw [dif_pos (by decide)]
    have hsi : ∀ hlt, GatherDims.siIdx gather_S400x256_S80x400x32x2_S80x400x32_n_01_n_n_01_3_11 (ix3 q d i) ⟨1, hlt⟩ = ix4 q d i 1 := fun hlt => by
      funext b; refine Fin.ext ?_
      match b with
      | ⟨0, _⟩ => rfl
      | ⟨1, _⟩ => rfl
      | ⟨2, _⟩ => rfl
      | ⟨3, _⟩ => rfl
    refine Eq.trans (b := min (idx (ix4 q d i 1)).toInt.toNat (256 - 1)) (congrArg (fun k => min (idx k).toInt.toNat (256 - 1)) (hsi _)) ?_
    rw [h1]; omega

/-! ## The query gradient -/

/-- The contribution of document d to query token i of query q, before its pair gradient. -/
theorem matched_apply (dw : Vec Ideal S400x256x128 .bf16) (a3 : Vec Ideal S400x256 .f32) (q : Fin 80) (d : Fin 400) (i : Fin 32) (s : Fin 256) (w : Fin 128)
    (h1 : (a4 (ix3 q d i)).toInt = (s.val : Int)) : (matched dw a3 a4 (ix4 q d i w) : EReal) = dw (ix3 d s w) * a3 (ix2 d s) := by
  have h0 : 0 ≤ (a4 (ix3 q d i)).toInt := by omega
  have e0 : (pairs a4 (ix4 q d i 0)).toInt = (d.val : Int) := by rw [pairs_doc, toInt_doc]
  have e1 : (pairs a4 (ix4 q d i 1)).toInt = (s.val : Int) := by rw [pairs_tok a4 q d i h0, h1]
  unfold matched
  pointwise
  rw [gather_codes dw (pairs a4) q d i s w e0 e1, gather_scales a3 (pairs a4) q d i s e0 e1]

/-- The query gradient at (q, i, w): the sum over the documents. -/
theorem dqTerm_apply (dw : Vec Ideal S400x256x128 .bf16) (a3 : Vec Ideal S400x256 .f32) (a5 : Vec Ideal S80x400 .bf16) (q : Fin 80) (i : Fin 32) (w : Fin 128) :
    (dqTerm dw a3 a4 a5 (ix3 q i w) : EReal) = ∑ d : Fin 400, (a5 (ix2 q d) : EReal) * matched dw a3 a4 (ix4 q d i w) := by
  unfold dqTerm
  pointwise

/-! ## The document gradient -/

/-- The contribution of query token i of query q to its match in document d. -/
theorem contrib_apply (qw : Vec Ideal S80x32x128 .f32) (a1 : Vec Ideal S80x32 .f32) (a5 : Vec Ideal S80x400 .bf16) (q : Fin 80) (d : Fin 400) (i : Fin 32) (w : Fin 128) :
    (contrib qw a1 a5 (ix4 q d i w) : EReal) = a5 (ix2 q d) * (qw (ix3 q i w) * a1 (ix2 q i)) := by
  unfold contrib
  pointwise

/-- Where the contribution (q, d, i, w) lands. -/
theorem lands (idx : IVec S80x400x32x2 32) (q : Fin 80) (d d' : Fin 400) (i : Fin 32) (s : Fin 256) (w w' : Fin 128) (h0 : (idx (ix4 q d' i 0)).toInt = (d'.val : Int)) :
    scatter_S400x256x128_S80x400x32x2_S80x400x32x128_3_01_01_3.resultIdx? (ix4 q d' i w') idx = some (ix3 d s w)
      ↔ d' = d ∧ (idx (ix4 q d' i 1)).toInt = (s.val : Int) ∧ w' = w := by
  rw [Routing.resultIdx?_eq_some]
  have s0 : scatter_S400x256x128_S80x400x32x2_S80x400x32x128_3_01_01_3.start (ix4 q d' i w') idx (0 : Fin 3) = (idx (ix4 q d' i 0)).toInt := by
    unfold ScatterDims.start
    rw [dif_pos (by decide)]
    refine congrArg (fun k => (idx k).toInt) (funext fun b => Fin.ext ?_)
    match b with
    | ⟨0, _⟩ => rfl
    | ⟨1, _⟩ => rfl
    | ⟨2, _⟩ => rfl
    | ⟨3, _⟩ => rfl
  have s1 : scatter_S400x256x128_S80x400x32x2_S80x400x32x128_3_01_01_3.start (ix4 q d' i w') idx (1 : Fin 3) = (idx (ix4 q d' i 1)).toInt := by
    unfold ScatterDims.start
    rw [dif_pos (by decide)]
    refine congrArg (fun k => (idx k).toInt) (funext fun b => Fin.ext ?_)
    match b with
    | ⟨0, _⟩ => rfl
    | ⟨1, _⟩ => rfl
    | ⟨2, _⟩ => rfl
    | ⟨3, _⟩ => rfl
  have s2 : scatter_S400x256x128_S80x400x32x2_S80x400x32x128_3_01_01_3.start (ix4 q d' i w') idx (2 : Fin 3) = 0 := by
    unfold ScatterDims.start
    rw [dif_neg (by decide)]
  have w0 : scatter_S400x256x128_S80x400x32x2_S80x400x32x128_3_01_01_3.window (ix4 q d' i w') (0 : Fin 3) = 0 := by
    unfold ScatterDims.window
    rw [dif_neg (by decide)]
  have w1 : scatter_S400x256x128_S80x400x32x2_S80x400x32x128_3_01_01_3.window (ix4 q d' i w') (1 : Fin 3) = 0 := by
    unfold ScatterDims.window
    rw [dif_neg (by decide)]
  have w2 : scatter_S400x256x128_S80x400x32x2_S80x400x32x128_3_01_01_3.window (ix4 q d' i w') (2 : Fin 3) = w'.val := by
    unfold ScatterDims.window
    rw [dif_pos (by decide)]
    rfl
  constructor
  · intro h
    have g0 := h (0 : Fin 3)
    have g1 := h (1 : Fin 3)
    have g2 := h (2 : Fin 3)
    rw [s0, w0, h0] at g0
    rw [s1, w1] at g1
    rw [s2, w2] at g2
    have g0' : (d'.val : Int) + ((0 : Nat) : Int) = (d.val : Int) := g0
    have g1' : (idx (ix4 q d' i 1)).toInt + ((0 : Nat) : Int) = (s.val : Int) := g1
    have g2' : (0 : Int) + (w'.val : Int) = (w.val : Int) := g2
    refine ⟨Fin.ext (by omega), by omega, Fin.ext (by omega)⟩
  · rintro ⟨rfl, h1, rfl⟩ a
    match a with
    | ⟨0, _⟩ =>
      refine (congrArg₂ (fun x (y : Nat) => x + (y : Int)) s0 w0).trans ?_
      show (idx (ix4 q d' i 0)).toInt + ((0 : Nat) : Int) = (d'.val : Int)
      omega
    | ⟨1, _⟩ =>
      refine (congrArg₂ (fun x (y : Nat) => x + (y : Int)) s1 w1).trans ?_
      show (idx (ix4 q d' i 1)).toInt + ((0 : Nat) : Int) = (s.val : Int)
      omega
    | ⟨2, _⟩ =>
      refine (congrArg₂ (fun x (y : Nat) => x + (y : Int)) s2 w2).trans ?_
      show (0 : Int) + (w'.val : Int) = (w'.val : Int)
      omega

/-- The document gradient at an index: the sum of the contributions that land there. -/
theorem ddTerm_apply (qw : Vec Ideal S80x32x128 .f32) (a1 : Vec Ideal S80x32 .f32) (a5 : Vec Ideal S80x400 .bf16) (j : S400x256x128.Idx) :
    (ddTerm qw a1 a4 a5 j : EReal) = ∑ k ∈ Finset.univ.filter
      (fun k => scatter_S400x256x128_S80x400x32x2_S80x400x32x128_3_01_01_3.resultIdx? k (pairs a4) = some j), (contrib qw a1 a5 k : EReal) := by
  have hz : (broadcastInDim S400x256x128 ![] bcast_S_S400x256x128 (constant (F := Ideal) S_ .f32 0x00000000#32) j : EReal) = 0 := by
    pointwise
  refine Eq.trans ?_ (zero_add _)
  rw [← hz]
  rfl

end Cert.ReferenceIdeal.Value
-- ==== Proof.Equation.lean ====
/-
  THE EQUATION (hand-written, untrusted). With every matched token number in `0 … 255`, the kernel's two arrays are the
  reference's. Query gradient: the kernel's one-hot row has one entry that is not zero, at the matched token, which is where
  the reference gathers. Document gradient: the kernel's sum over the rows keeps the rows matched to the token, which are the
  contributions the reference's scatter adds there.
-/
module

public import proofs.«01_k».proof.Pre_in_range
public import proofs.«01_k».proof.Proof.KernelFold
public import proofs.«01_k».proof.Proof.RefValue

@[expose] public section

set_option maxRecDepth 16384

noncomputable section

namespace Cert.Equation

open Idealize.ShloMosaic Idealize.ShloMosaic.TcCoe Idealize.SL.Sem
open Cert.KernelIdeal.Value (hot qOf iOf dqPart ddSum)
open Cert.ReferenceIdeal.Value
open Cert.ReferenceIdeal
open scoped BigOperators

/-- Every matched token number lies in `0 … 255`. -/
def InRange (a4 : Vec Ideal S80x400x32 .i32) : Prop :=
  ∀ (q : Fin 80) (d : Fin 400) (i : Fin 32), 0 ≤ (a4 (ix3 q d i)).toInt ∧ (a4 (ix3 q d i)).toInt < 256

/-- A word is the token number `s` exactly when its value is `s`. -/
theorem eq_tok (k : BitVec 32) (s : Fin 256) : k = BitVec.ofNat 32 s.val ↔ k.toInt = (s.val : Int) := by
  have hs := s.isLt
  have h : (BitVec.ofNat 32 s.val).toInt = (s.val : Int) := by
    rw [BitVec.toInt_eq_toNat_of_lt] <;> rw [BitVec.toNat_ofNat, Nat.mod_eq_of_lt] <;> omega
  exact ⟨fun e => e ▸ h, fun e => BitVec.eq_of_toInt_eq (e.trans h.symm)⟩

/-- A one-hot row times a row of values is the entry at the matched token. -/
theorem sum_hot (k : BitVec 32) (s : Fin 256) (hk : k.toInt = (s.val : Int)) (f : Fin 256 → EReal) (x : EReal) :
    ∑ u : Fin 256, f u * hot k u x = x * f s := by
  rw [Finset.sum_eq_single s]
  · rw [hot, if_pos ((eq_tok k s).2 hk), mul_comm]
  · intro u _ hu
    rw [hot, if_neg, mul_zero]
    intro h
    exact hu (Fin.ext (by have := (eq_tok k u).1 h; omega))
  · intro h; exact absurd (Finset.mem_univ s) h

/-- A row of the kernel's arrays from its query and query token. -/
def rowOf (q : Fin 80) (i : Fin 32) : Fin 2560 := ⟨q.val * 32 + i.val, by omega⟩

/-- The query of a row. -/
theorem qOf_rowOf (q : Fin 80) (i : Fin 32) : qOf (rowOf q i) = q :=
  Fin.ext (by show (q.val * 32 + i.val) / 32 = q.val; omega)

/-- The query token of a row. -/
theorem iOf_rowOf (q : Fin 80) (i : Fin 32) : iOf (rowOf q i) = i :=
  Fin.ext (by show (q.val * 32 + i.val) % 32 = i.val; omega)

/-- A row is the row of its query and query token. -/
theorem rowOf_qi (r : Fin 2560) : rowOf (qOf r) (iOf r) = r :=
  Fin.ext (by show r.val / 32 * 32 + r.val % 32 = r.val; omega)

/-- Every rank-2 index is its two coordinates. -/
theorem ix2_of {a b : Nat} (j : (Shape.mk 2 ![a, b]).Idx) : ∃ (x : Fin a) (y : Fin b), j = ix2 x y :=
  ⟨j 0, j 1, funext fun u => by match u with | ⟨0, _⟩ => rfl | ⟨1, _⟩ => rfl⟩

/-- Every rank-3 index is its three coordinates. -/
theorem ix3_of {a b c : Nat} (j : (Shape.mk 3 ![a, b, c]).Idx) : ∃ (x : Fin a) (y : Fin b) (z : Fin c), j = ix3 x y z :=
  ⟨j 0, j 1, j 2, funext fun u => by match u with | ⟨0, _⟩ => rfl | ⟨1, _⟩ => rfl | ⟨2, _⟩ => rfl⟩

/-- Every rank-4 index is its four coordinates. -/
theorem ix4_of {a b c d : Nat} (j : (Shape.mk 4 ![a, b, c, d]).Idx) : ∃ (x : Fin a) (y : Fin b) (z : Fin c) (w : Fin d), j = ix4 x y z w :=
  ⟨j 0, j 1, j 2, j 3, funext fun u => by match u with | ⟨0, _⟩ => rfl | ⟨1, _⟩ => rfl | ⟨2, _⟩ => rfl | ⟨3, _⟩ => rfl⟩

variable (a0 : Vec Ideal S80x32x128 .fp8e4m3) (a1 : Vec Ideal S80x32 .f32) (a2 : Vec Ideal S400x256x128 .fp8e4m3) (a3 : Vec Ideal S400x256 .f32)
  (a4 : Vec Ideal S80x400x32 .i32) (a5 : Vec Ideal S80x400 .bf16)

/-- The query gradient: the kernel's sum over the documents is the reference's. -/
theorem dq_apply (hin : InRange a4) (r : Fin 2560) (w : Fin 128) :
    ∑ d : Fin 400, dqPart a2 a3 a4 a5 d r w = (refDq a2 a3 a4 a5 (ix2 r w) : EReal) := by
  have e : refDq a2 a3 a4 a5 (ix2 r w) = dqTerm (extf .bf16 a2 Gen.bitsLt_fp8e4m3_bf16) a3 a4 a5 (ix3 (qOf r) (iOf r) w) := by
    unfold refDq
    refine shapeCast_apply _ _ _ (ix3 (qOf r) (iOf r) w) ?_
    rw [Shape.rowMajor_val_three, Shape.rowMajor_val_two]
    show (r.val / 32 * 32 + r.val % 32) * 128 + w.val = r.val * 128 + w.val
    omega
  rw [e, dqTerm_apply]
  refine Finset.sum_congr rfl fun d _ => ?_
  obtain ⟨h0, h1⟩ := hin (qOf r) d (iOf r)
  have hs : (a4 (ix3 (qOf r) d (iOf r))).toInt = (((⟨(a4 (ix3 (qOf r) d (iOf r))).toInt.toNat, by omega⟩ : Fin 256)).val : Int) := by
    show _ = ((a4 (ix3 (qOf r) d (iOf r))).toInt.toNat : Int)
    omega
  rw [matched_apply a4 _ a3 (qOf r) d (iOf r) _ w hs]
  exact sum_hot _ _ hs (fun u => a2 (ix3 d u w) * a3 (ix2 d u)) _

/-- The document gradient: the kernel's sum over the rows is the reference's sum of the contributions that land. -/
theorem dd_apply (hin : InRange a4) (d : Fin 400) (s : Fin 256) (w : Fin 128) :
    ddSum a0 a1 a4 a5 d s w = (refDd a0 a1 a4 a5 (ix3 d s w) : EReal) := by
  have e0 : ∀ (q : Fin 80) (d : Fin 400) (i : Fin 32), (pairs a4 (ix4 q d i 0)).toInt = (d.val : Int) := fun q d i => by rw [pairs_doc, toInt_doc]
  unfold ddSum refDd hot
  rw [ddTerm_apply, ← Finset.sum_filter]
  refine Finset.sum_bij' (fun r _ => ix4 (qOf r) d (iOf r) w) (fun k _ => rowOf (k 0) (k 2)) ?_ ?_ ?_ ?_ ?_
  · intro r hr
    rw [Finset.mem_filter] at hr ⊢
    refine ⟨Finset.mem_univ _, (lands _ _ _ _ _ _ _ _ (e0 _ _ _)).2 ⟨rfl, ?_, rfl⟩⟩
    rw [pairs_tok a4 _ _ _ (hin _ _ _).1]
    exact (eq_tok _ _).1 hr.2
  · intro k hk
    obtain ⟨q, d', i, w', rfl⟩ := ix4_of k
    obtain ⟨rfl, h1, rfl⟩ := (lands _ _ _ _ _ _ _ _ (e0 _ _ _)).1 (Finset.mem_filter.1 hk).2
    rw [pairs_tok a4 _ _ _ (hin _ _ _).1] at h1
    refine Finset.mem_filter.2 ⟨Finset.mem_univ _, ?_⟩
    show a4 (ix3 (qOf (rowOf q i)) d' (iOf (rowOf q i))) = _
    rw [qOf_rowOf, iOf_rowOf]
    exact (eq_tok _ _).2 h1
  · intro r _
    exact rowOf_qi r
  · intro k hk
    obtain ⟨q, d', i, w', rfl⟩ := ix4_of k
    obtain ⟨rfl, h1, rfl⟩ := (lands _ _ _ _ _ _ _ _ (e0 _ _ _)).1 (Finset.mem_filter.1 hk).2
    show ix4 (qOf (rowOf q i)) d' (iOf (rowOf q i)) w' = _
    rw [qOf_rowOf, iOf_rowOf]
  · intro r _
    rw [contrib_apply]
    show (a5 (ix2 (qOf r) d) : EReal) * a1 (ix2 (qOf r) (iOf r)) * a0 (ix3 (qOf r) (iOf r) w)
      = a5 (ix2 (qOf r) d) * (a0 (ix3 (qOf r) (iOf r) w) * a1 (ix2 (qOf r) (iOf r)))
    rw [mul_assoc, mul_comm (a1 _ : EReal)]

/-- The precondition, unfolded: every matched token number lies in `0 … 255`. -/
theorem inRange_of_pre [Cert.Pre_in_range.Facts] (h : Cert.Pre_in_range.fn (F := Ideal) a0 a1 a2 a3 a4 a5 = fun _ => 1#1) : InRange a4 := by
  intro q d i
  have e : IntOp.andi (IntOp.cmpi .sge (a4 (ix3 q d i)) 0#32) (IntOp.cmpi .slt (a4 (ix3 q d i)) 256#32) = 1#1 := congrFun h (ix3 q d i)
  have e' : BitVec.ofBool ((0#32).sle (a4 (ix3 q d i))) &&& BitVec.ofBool ((a4 (ix3 q d i)).slt 256#32) = 1#1 := e
  cases h1 : (0#32).sle (a4 (ix3 q d i)) <;> cases h2 : (a4 (ix3 q d i)).slt 256#32 <;> rw [h1, h2] at e'
  · exact absurd e' (by decide)
  · exact absurd e' (by decide)
  · exact absurd e' (by decide)
  · rw [BitVec.sle, decide_eq_true_iff] at h1
    rw [BitVec.slt, decide_eq_true_iff] at h2
    exact ⟨h1, h2⟩

/-! ## The two arrays -/

variable (m : (ℓ : Loc Cert.KernelIdeal.nD Cert.KernelIdeal.τ Cert.KernelIdeal.sig) → Buf (Elt Ideal) ℓ) (c : Dev Cert.KernelIdeal.nD)

/-- The kernel's first array is the reference's first result at the same arguments. -/
theorem dq_eq (hin : InRange (m ((c : Thread Cert.KernelIdeal.nD Cert.KernelIdeal.τ).loc Cert.KernelIdeal.main_arg4))) :
    Cert.KernelIdeal.Value.G6 m c = refDq (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)) := by
  funext j
  obtain ⟨r, w, rfl⟩ := ix2_of j
  exact (Cert.KernelIdeal.Value.G6_apply m c r w).trans (dq_apply _ _ _ _ hin r w)

/-- The kernel's second array is the reference's second result at the same arguments. -/
theorem dd_eq (hin : InRange (m ((c : Thread Cert.KernelIdeal.nD Cert.KernelIdeal.τ).loc Cert.KernelIdeal.main_arg4))) :
    Cert.KernelIdeal.Value.G7 m c = refDd (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg4))
      (m ((c : Thread Cert.KernelIdeal.nD Cert.KernelIdeal.τ).loc Cert.KernelIdeal.main_arg5)) := by
  funext j
  obtain ⟨d, s, w, rfl⟩ := ix3_of j
  exact (Cert.KernelIdeal.Value.G7_apply m c d s w).trans (dd_apply _ _ _ _ hin d s w)

end Cert.Equation
-- ==== Proof.lean ====
/-
  The proof of `Cert.Claim` (hand-written, untrusted): the frames are the generated ones; the two programs of `preserves` print
  the same operations; the value claim joins the kernel's run (Gen.KernelIdeal.Value), the reference's run (Proof.RefRun) and the
  equation of their arrays (Proof.Equation).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The side condition the precondition states: a scalar broadcasts to the shape of the matches. -/
theorem preFacts : Cert.Pre_in_range.Facts := ⟨by decide⟩

/-- With every matched token number in `0 … 255`, both results of the kernel are the reference's. -/
theorem algebraic : Cert.algebraic_KernelIdeal_ReferenceIdeal_pre_in_range (hKernelIdeal := Cert.KernelIdeal.Gen.facts)
    (hReferenceIdeal := Cert.ReferenceIdeal.Gen.facts) (hPre_in_range := preFacts) := by
  intro m g m' g' hpre hargs
  have hin := fun c : Dev Cert.KernelIdeal.nD => @Cert.Equation.inRange_of_pre _ _ _ _ _ _ preFacts (hpre c)
  refine ⟨fun c => Cert.KernelIdeal.Value.G6 m c, fun c => Cert.KernelIdeal.Value.G7 m c, Cert.KernelIdeal.Value.run m g, ?_⟩
  refine (θ_run Cert.ReferenceIdeal.defs _ _).mono (fun r h c => ?_) (Cert.ReferenceIdeal.Value.run m' g')
  obtain ⟨h0, h1, hrest⟩ := h c
  obtain ⟨e0, e1, e2, e3, e4, e5⟩ := hargs c
  refine ⟨h0.trans ?_, h1.trans ?_, hrest⟩
  · refine Eq.trans ?_ (Cert.Equation.dq_eq m c (hin c)).symm
    rw [e2, e3, e4, e5]
  · refine Eq.trans ?_ (Cert.Equation.dd_eq m c (hin c)).symm
    rw [e0, e1, e4, e5]

/-- Every claim of the certificate. -/
theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    trivial,
    algebraic⟩

end Cert.Proof

end
